-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v40) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x3x32x32 : Shape := ⟨4, ![256, 3, 32, 32]⟩
abbrev S16x3x3x3 : Shape := ⟨4, ![16, 3, 3, 3]⟩
abbrev S16 : Shape := ⟨1, ![16]⟩
abbrev S4x16x16x3x3 : Shape := ⟨5, ![4, 16, 16, 3, 3]⟩
abbrev S4x16 : Shape := ⟨2, ![4, 16]⟩
abbrev S8x16x3x3 : Shape := ⟨4, ![8, 16, 3, 3]⟩
abbrev S8 : Shape := ⟨1, ![8]⟩
abbrev S16x128 : Shape := ⟨2, ![16, 128]⟩
abbrev S10x16 : Shape := ⟨2, ![10, 16]⟩
abbrev S10 : Shape := ⟨1, ![10]⟩
abbrev S4x4096 : Shape := ⟨2, ![4, 4096]⟩
abbrev S4 : Shape := ⟨1, ![4]⟩
abbrev S4096x4096 : Shape := ⟨2, ![4096, 4096]⟩
abbrev S4096 : Shape := ⟨1, ![4096]⟩
abbrev S16x27 : Shape := ⟨2, ![16, 27]⟩
abbrev S4x16x3x3x16 : Shape := ⟨5, ![4, 16, 3, 3, 16]⟩
abbrev S64x144 : Shape := ⟨2, ![64, 144]⟩
abbrev S8x3x3x16 : Shape := ⟨4, ![8, 3, 3, 16]⟩
abbrev S8x144 : Shape := ⟨2, ![8, 144]⟩
abbrev S_ : Shape := ⟨0, ![]⟩
abbrev S8x4096 : Shape := ⟨2, ![8, 4096]⟩
abbrev S8x1 : Shape := ⟨2, ![8, 1]⟩
abbrev S16x16 : Shape := ⟨2, ![16, 16]⟩
abbrev S16x1 : Shape := ⟨2, ![16, 1]⟩
abbrev S4096x1 : Shape := ⟨2, ![4096, 1]⟩
abbrev S3x32x32x256 : Shape := ⟨4, ![3, 32, 32, 256]⟩
abbrev S3x34x34x256 : Shape := ⟨4, ![3, 34, 34, 256]⟩
abbrev S3x16x16x256 : Shape := ⟨4, ![3, 16, 16, 256]⟩
abbrev S27x16x16x256 : Shape := ⟨4, ![27, 16, 16, 256]⟩
abbrev S27x65536 : Shape := ⟨2, ![27, 65536]⟩
abbrev S16x65536 : Shape := ⟨2, ![16, 65536]⟩
abbrev S27x8192 : Shape := ⟨2, ![27, 8192]⟩
abbrev S16x8192 : Shape := ⟨2, ![16, 8192]⟩
abbrev S4096x256 : Shape := ⟨2, ![4096, 256]⟩
abbrev S8x256 : Shape := ⟨2, ![8, 256]⟩
abbrev S1x256 : Shape := ⟨2, ![1, 256]⟩
abbrev S4x256 : Shape := ⟨2, ![4, 256]⟩
abbrev S256x4 : Shape := ⟨2, ![256, 4]⟩
abbrev S16x16x16x256 : Shape := ⟨4, ![16, 16, 16, 256]⟩
abbrev S16x18x18x256 : Shape := ⟨4, ![16, 18, 18, 256]⟩
abbrev S64x1 : Shape := ⟨2, ![64, 1]⟩
abbrev S16x16384 : Shape := ⟨2, ![16, 16384]⟩
abbrev S16x4x16x256 : Shape := ⟨4, ![16, 4, 16, 256]⟩
abbrev S144x4x16x256 : Shape := ⟨4, ![144, 4, 16, 256]⟩
abbrev S144x16384 : Shape := ⟨2, ![144, 16384]⟩
abbrev S64x16384 : Shape := ⟨2, ![64, 16384]⟩
abbrev S1x1x256 : Shape := ⟨3, ![1, 1, 256]⟩
abbrev S1x64x256 : Shape := ⟨3, ![1, 64, 256]⟩
abbrev S1x16384 : Shape := ⟨2, ![1, 16384]⟩
abbrev S512x4096 : Shape := ⟨2, ![512, 4096]⟩
abbrev S512x1 : Shape := ⟨2, ![512, 1]⟩
abbrev S512x256 : Shape := ⟨2, ![512, 256]⟩
abbrev S16x8x8x256 : Shape := ⟨4, ![16, 8, 8, 256]⟩
abbrev S144x8x8x256 : Shape := ⟨4, ![144, 8, 8, 256]⟩
abbrev S144x4x2x4x2x256 : Shape := ⟨6, ![144, 4, 2, 4, 2, 256]⟩
abbrev S144x4x4x2x2x256 : Shape := ⟨6, ![144, 4, 4, 2, 2, 256]⟩
abbrev S16x256 : Shape := ⟨2, ![16, 256]⟩
abbrev S8x16384 : Shape := ⟨2, ![8, 16384]⟩
abbrev S8x16x4x256 : Shape := ⟨4, ![8, 16, 4, 256]⟩
abbrev S8x16x256 : Shape := ⟨3, ![8, 16, 256]⟩
abbrev S128x256 : Shape := ⟨2, ![128, 256]⟩
abbrev S10x256 : Shape := ⟨2, ![10, 256]⟩
abbrev S256x10 : Shape := ⟨2, ![256, 10]⟩

abbrev nBuf : Space → Nat
  | .hbm => 98
  | .vmem => 48
  | .smem => 0
  | _ => 0

abbrev bufTy : (tb : Table) → Fin (tcTables nBuf tb) → BufTy
  | .hbm, ⟨0, _⟩ => ⟨S256x3x32x32, .f32⟩
  | .hbm, ⟨1, _⟩ => ⟨S16x3x3x3, .f32⟩
  | .hbm, ⟨2, _⟩ => ⟨S16, .f32⟩
  | .hbm, ⟨3, _⟩ => ⟨S4x16x16x3x3, .f32⟩
  | .hbm, ⟨4, _⟩ => ⟨S4x16, .f32⟩
  | .hbm, ⟨5, _⟩ => ⟨S8x16x3x3, .f32⟩
  | .hbm, ⟨6, _⟩ => ⟨S8, .f32⟩
  | .hbm, ⟨7, _⟩ => ⟨S16x128, .f32⟩
  | .hbm, ⟨8, _⟩ => ⟨S16, .f32⟩
  | .hbm, ⟨9, _⟩ => ⟨S10x16, .f32⟩
  | .hbm, ⟨10, _⟩ => ⟨S10, .f32⟩
  | .hbm, ⟨11, _⟩ => ⟨S4x4096, .f32⟩
  | .hbm, ⟨12, _⟩ => ⟨S4, .f32⟩
  | .hbm, ⟨13, _⟩ => ⟨S4096x4096, .f32⟩
  | .hbm, ⟨14, _⟩ => ⟨S4096, .f32⟩
  | .hbm, ⟨15, _⟩ => ⟨S16x3x3x3, .f32⟩
  | .hbm, ⟨16, _⟩ => ⟨S16x27, .f32⟩
  | .hbm, ⟨17, _⟩ => ⟨S4x16x3x3x16, .f32⟩
  | .hbm, ⟨18, _⟩ => ⟨S64x144, .f32⟩
  | .hbm, ⟨19, _⟩ => ⟨S8x3x3x16, .f32⟩
  | .hbm, ⟨20, _⟩ => ⟨S8x144, .f32⟩
  | .hbm, ⟨21, _⟩ => ⟨S_, .i32⟩
  | .hbm, ⟨22, _⟩ => ⟨S_, .f32⟩
  | .hbm, ⟨23, _⟩ => ⟨S8x4096, .f32⟩
  | .hbm, ⟨24, _⟩ => ⟨S_, .i32⟩
  | .hbm, ⟨25, _⟩ => ⟨S_, .f32⟩
  | .hbm, ⟨26, _⟩ => ⟨S8, .f32⟩
  | .hbm, ⟨27, _⟩ => ⟨S8x1, .f32⟩
  | .hbm, ⟨28, _⟩ => ⟨S_, .i32⟩
  | .hbm, ⟨29, _⟩ => ⟨S_, .f32⟩
  | .hbm, ⟨30, _⟩ => ⟨S16x16, .f32⟩
  | .hbm, ⟨31, _⟩ => ⟨S_, .i32⟩
  | .hbm, ⟨32, _⟩ => ⟨S_, .f32⟩
  | .hbm, ⟨33, _⟩ => ⟨S16, .f32⟩
  | .hbm, ⟨34, _⟩ => ⟨S16x1, .f32⟩
  | .hbm, ⟨35, _⟩ => ⟨S4096x1, .f32⟩
  | .hbm, ⟨36, _⟩ => ⟨S3x32x32x256, .f32⟩
  | .hbm, ⟨37, _⟩ => ⟨S_, .i32⟩
  | .hbm, ⟨38, _⟩ => ⟨S_, .f32⟩
  | .hbm, ⟨39, _⟩ => ⟨S3x34x34x256, .f32⟩
  | .hbm, ⟨40, _⟩ => ⟨S3x16x16x256, .f32⟩
  | .hbm, ⟨41, _⟩ => ⟨S3x16x16x256, .f32⟩
  | .hbm, ⟨42, _⟩ => ⟨S3x16x16x256, .f32⟩
  | .hbm, ⟨43, _⟩ => ⟨S3x16x16x256, .f32⟩
  | .hbm, ⟨44, _⟩ => ⟨S3x16x16x256, .f32⟩
  | .hbm, ⟨45, _⟩ => ⟨S3x16x16x256, .f32⟩
  | .hbm, ⟨46, _⟩ => ⟨S3x16x16x256, .f32⟩
  | .hbm, ⟨47, _⟩ => ⟨S3x16x16x256, .f32⟩
  | .hbm, ⟨48, _⟩ => ⟨S3x16x16x256, .f32⟩
  | .hbm, ⟨49, _⟩ => ⟨S27x16x16x256, .f32⟩
  | .hbm, ⟨50, _⟩ => ⟨S27x65536, .f32⟩
  | .hbm, ⟨51, _⟩ => ⟨S16x1, .f32⟩
  | .hbm, ⟨52, _⟩ => ⟨S16x65536, .f32⟩
  | .hbm, ⟨53, _⟩ => ⟨S4096x256, .f32⟩
  | .hbm, ⟨54, _⟩ => ⟨S8x256, .f32⟩
  | .hbm, ⟨55, _⟩ => ⟨S4x256, .f32⟩
  | .hbm, ⟨56, _⟩ => ⟨S256x4, .f32⟩
  | .hbm, ⟨57, _⟩ => ⟨S16x16x16x256, .f32⟩
  | .hbm, ⟨58, _⟩ => ⟨S_, .i32⟩
  | .hbm, ⟨59, _⟩ => ⟨S_, .f32⟩
  | .hbm, ⟨60, _⟩ => ⟨S16x18x18x256, .f32⟩
  | .hbm, ⟨61, _⟩ => ⟨S64x1, .f32⟩
  | .hbm, ⟨62, _⟩ => ⟨S16x65536, .f32⟩
  | .hbm, ⟨63, _⟩ => ⟨S4096x256, .f32⟩
  | .hbm, ⟨64, _⟩ => ⟨S4096x256, .f32⟩
  | .hbm, ⟨65, _⟩ => ⟨S8x256, .f32⟩
  | .hbm, ⟨66, _⟩ => ⟨S4x256, .f32⟩
  | .hbm, ⟨67, _⟩ => ⟨S256x4, .f32⟩
  | .hbm, ⟨68, _⟩ => ⟨S16x16x16x256, .f32⟩
  | .hbm, ⟨69, _⟩ => ⟨S_, .i32⟩
  | .hbm, ⟨70, _⟩ => ⟨S_, .f32⟩
  | .hbm, ⟨71, _⟩ => ⟨S16x18x18x256, .f32⟩
  | .hbm, ⟨72, _⟩ => ⟨S64x1, .f32⟩
  | .hbm, ⟨73, _⟩ => ⟨S16x65536, .f32⟩
  | .hbm, ⟨74, _⟩ => ⟨S4096x256, .f32⟩
  | .hbm, ⟨75, _⟩ => ⟨S4096x256, .f32⟩
  | .hbm, ⟨76, _⟩ => ⟨S16x16x16x256, .f32⟩
  | .hbm, ⟨77, _⟩ => ⟨S_, .i32⟩
  | .hbm, ⟨78, _⟩ => ⟨S_, .f32⟩
  | .hbm, ⟨79, _⟩ => ⟨S16x18x18x256, .f32⟩
  | .hbm, ⟨80, _⟩ => ⟨S16x8x8x256, .f32⟩
  | .hbm, ⟨81, _⟩ => ⟨S16x8x8x256, .f32⟩
  | .hbm, ⟨82, _⟩ => ⟨S16x8x8x256, .f32⟩
  | .hbm, ⟨83, _⟩ => ⟨S16x8x8x256, .f32⟩
  | .hbm, ⟨84, _⟩ => ⟨S16x8x8x256, .f32⟩
  | .hbm, ⟨85, _⟩ => ⟨S16x8x8x256, .f32⟩
  | .hbm, ⟨86, _⟩ => ⟨S16x8x8x256, .f32⟩
  | .hbm, ⟨87, _⟩ => ⟨S16x8x8x256, .f32⟩
  | .hbm, ⟨88, _⟩ => ⟨S16x8x8x256, .f32⟩
  | .hbm, ⟨89, _⟩ => ⟨S144x8x8x256, .f32⟩
  | .hbm, ⟨90, _⟩ => ⟨S144x4x2x4x2x256, .f32⟩
  | .hbm, ⟨91, _⟩ => ⟨S144x4x4x2x2x256, .f32⟩
  | .hbm, ⟨92, _⟩ => ⟨S144x16384, .f32⟩
  | .hbm, ⟨93, _⟩ => ⟨S8x1, .f32⟩
  | .hbm, ⟨94, _⟩ => ⟨S16x1, .f32⟩
  | .hbm, ⟨95, _⟩ => ⟨S16x256, .f32⟩
  | .hbm, ⟨96, _⟩ => ⟨S10x256, .f32⟩
  | .hbm, ⟨97, _⟩ => ⟨S256x10, .f32⟩
  | .local _ .vmem, ⟨0, _⟩ => ⟨S16x27, .f32⟩
  | .local _ .vmem, ⟨1, _⟩ => ⟨S27x8192, .f32⟩
  | .local _ .vmem, ⟨2, _⟩ => ⟨S27x8192, .f32⟩
  | .local _ .vmem, ⟨3, _⟩ => ⟨S16x1, .f32⟩
  | .local _ .vmem, ⟨4, _⟩ => ⟨S16x8192, .f32⟩
  | .local _ .vmem, ⟨5, _⟩ => ⟨S16x8192, .f32⟩
  | .local _ .vmem, ⟨6, _⟩ => ⟨S4096x256, .f32⟩
  | .local _ .vmem, ⟨7, _⟩ => ⟨S8x4096, .f32⟩
  | .local _ .vmem, ⟨8, _⟩ => ⟨S8x1, .f32⟩
  | .local _ .vmem, ⟨9, _⟩ => ⟨S8x256, .f32⟩
  | .local _ .vmem, ⟨10, _⟩ => ⟨S16x18x18x256, .f32⟩
  | .local _ .vmem, ⟨11, _⟩ => ⟨S64x144, .f32⟩
  | .local _ .vmem, ⟨12, _⟩ => ⟨S64x1, .f32⟩
  | .local _ .vmem, ⟨13, _⟩ => ⟨S8x256, .f32⟩
  | .local _ .vmem, ⟨14, _⟩ => ⟨S16x16384, .f32⟩
  | .local _ .vmem, ⟨15, _⟩ => ⟨S16x16384, .f32⟩
  | .local _ .vmem, ⟨16, _⟩ => ⟨S512x4096, .f32⟩
  | .local _ .vmem, ⟨17, _⟩ => ⟨S512x4096, .f32⟩
  | .local _ .vmem, ⟨18, _⟩ => ⟨S4096x256, .f32⟩
  | .local _ .vmem, ⟨19, _⟩ => ⟨S512x1, .f32⟩
  | .local _ .vmem, ⟨20, _⟩ => ⟨S512x1, .f32⟩
  | .local _ .vmem, ⟨21, _⟩ => ⟨S512x256, .f32⟩
  | .local _ .vmem, ⟨22, _⟩ => ⟨S512x256, .f32⟩
  | .local _ .vmem, ⟨23, _⟩ => ⟨S4096x256, .f32⟩
  | .local _ .vmem, ⟨24, _⟩ => ⟨S8x4096, .f32⟩
  | .local _ .vmem, ⟨25, _⟩ => ⟨S8x1, .f32⟩
  | .local _ .vmem, ⟨26, _⟩ => ⟨S8x256, .f32⟩
  | .local _ .vmem, ⟨27, _⟩ => ⟨S16x18x18x256, .f32⟩
  | .local _ .vmem, ⟨28, _⟩ => ⟨S64x144, .f32⟩
  | .local _ .vmem, ⟨29, _⟩ => ⟨S64x1, .f32⟩
  | .local _ .vmem, ⟨30, _⟩ => ⟨S8x256, .f32⟩
  | .local _ .vmem, ⟨31, _⟩ => ⟨S16x16384, .f32⟩
  | .local _ .vmem, ⟨32, _⟩ => ⟨S16x16384, .f32⟩
  | .local _ .vmem, ⟨33, _⟩ => ⟨S512x4096, .f32⟩
  | .local _ .vmem, ⟨34, _⟩ => ⟨S512x4096, .f32⟩
  | .local _ .vmem, ⟨35, _⟩ => ⟨S4096x256, .f32⟩
  | .local _ .vmem, ⟨36, _⟩ => ⟨S512x1, .f32⟩
  | .local _ .vmem, ⟨37, _⟩ => ⟨S512x1, .f32⟩
  | .local _ .vmem, ⟨38, _⟩ => ⟨S512x256, .f32⟩
  | .local _ .vmem, ⟨39, _⟩ => ⟨S512x256, .f32⟩
  | .local _ .vmem, ⟨40, _⟩ => ⟨S144x16384, .f32⟩
  | .local _ .vmem, ⟨41, _⟩ => ⟨S8x144, .f32⟩
  | .local _ .vmem, ⟨42, _⟩ => ⟨S8x1, .f32⟩
  | .local _ .vmem, ⟨43, _⟩ => ⟨S16x128, .f32⟩
  | .local _ .vmem, ⟨44, _⟩ => ⟨S16x1, .f32⟩
  | .local _ .vmem, ⟨45, _⟩ => ⟨S16x16, .f32⟩
  | .local _ .vmem, ⟨46, _⟩ => ⟨S16x1, .f32⟩
  | .local _ .vmem, ⟨47, _⟩ => ⟨S16x256, .f32⟩
  | _, _ => ⟨S256x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_call0_v0 : Ref sig .tc := ⟨.hbm, 22, rfl⟩
abbrev main_v6 : Ref sig .tc := ⟨.hbm, 23, rfl⟩
abbrev main_c_0 : Ref sig .tc := ⟨.hbm, 24, rfl⟩
abbrev main_call1_v0 : Ref sig .tc := ⟨.hbm, 25, rfl⟩
abbrev main_v7 : Ref sig .tc := ⟨.hbm, 26, rfl⟩
abbrev main_v8 : Ref sig .tc := ⟨.hbm, 27, rfl⟩
abbrev main_c_1 : Ref sig .tc := ⟨.hbm, 28, rfl⟩
abbrev main_call2_v0 : Ref sig .tc := ⟨.hbm, 29, rfl⟩
abbrev main_v9 : Ref sig .tc := ⟨.hbm, 30, rfl⟩
abbrev main_c_2 : Ref sig .tc := ⟨.hbm, 31, rfl⟩
abbrev main_call3_v0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_c_3 : Ref sig .tc := ⟨.hbm, 37, rfl⟩
abbrev main_call4_v0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_c_4 : Ref sig .tc := ⟨.hbm, 58, rfl⟩
abbrev main_call5_v0 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_5 : Ref sig .tc := ⟨.hbm, 69, rfl⟩
abbrev main_call6_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_6 : Ref sig .tc := ⟨.hbm, 77, rfl⟩
abbrev main_call7_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc3_stg3_0 : Ref sig .tc := ⟨.vmem, 21, rfl⟩
abbrev cc3_stg3_1 : Ref sig .tc := ⟨.vmem, 22, rfl⟩
abbrev cc4_stg0_0 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg4_1 : Ref sig .tc := ⟨.vmem, 32, rfl⟩
abbrev cc6_stg0_0 : Ref sig .tc := ⟨.vmem, 33, rfl⟩
abbrev cc6_stg0_1 : Ref sig .tc := ⟨.vmem, 34, rfl⟩
abbrev cc6_stg1_0 : Ref sig .tc := ⟨.vmem, 35, rfl⟩
abbrev cc6_stg2_0 : Ref sig .tc := ⟨.vmem, 36, rfl⟩
abbrev cc6_stg2_1 : Ref sig .tc := ⟨.vmem, 37, rfl⟩
abbrev cc6_stg3_0 : Ref sig .tc := ⟨.vmem, 38, rfl⟩
abbrev cc6_stg3_1 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc7_stg4_0 : Ref sig .tc := ⟨.vmem, 44, rfl⟩
abbrev cc7_stg5_0 : Ref sig .tc := ⟨.vmem, 45, rfl⟩
abbrev cc7_stg6_0 : Ref sig .tc := ⟨.vmem, 46, rfl⟩
abbrev cc7_stg7_0 : Ref sig .tc := ⟨.vmem, 47, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem4_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc3_sem3_0 : DmaSem sig := 21
abbrev cc3_sem3_1 : DmaSem sig := 22
abbrev cc4_sem0_0 : DmaSem sig := 23
abbrev cc4_sem1_0 : DmaSem sig := 24
abbrev cc4_sem2_0 : DmaSem sig := 25
abbrev cc4_sem3_0 : DmaSem sig := 26
abbrev cc5_sem0_0 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem4_1 : DmaSem sig := 32
abbrev cc6_sem0_0 : DmaSem sig := 33
abbrev cc6_sem0_1 : DmaSem sig := 34
abbrev cc6_sem1_0 : DmaSem sig := 35
abbrev cc6_sem2_0 : DmaSem sig := 36
abbrev cc6_sem2_1 : DmaSem sig := 37
abbrev cc6_sem3_0 : DmaSem sig := 38
abbrev cc6_sem3_1 : DmaSem sig := 39
abbrev cc7_sem0_0 : DmaSem sig := 40
abbrev cc7_sem1_0 : DmaSem sig := 41
abbrev cc7_sem2_0 : DmaSem sig := 42
abbrev cc7_sem3_0 : DmaSem sig := 43
abbrev cc7_sem4_0 : DmaSem sig := 44
abbrev cc7_sem5_0 : DmaSem sig := 45
abbrev cc7_sem6_0 : DmaSem sig := 46
abbrev cc7_sem7_0 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x27 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S27x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

abbrev stage1_0 : Fin 1 → Memref sig .tc .vmem S4096x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![4], ![false]⟩

def k2_off1 (i : grid2.Coords) (c0_i32 : BitVec 32) : Fin 4 → Nat :=
  let c0 : Index := 0#32
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  let c0_0 : Index := 0#32
  let c0_1 : Index := 0#32
  ![0, v2.toNat, 0, 0]
def k2_off2 (i : grid2.Coords) (c0_i32_3 : BitVec 32) : Fin 4 → Nat :=
  let c0_4 : Index := 0#32
  let arg0 : BitVec 32 := BitVec.ofNat 32 (i 0).val
  let c4_i32_2 : BitVec 32 := 4#32
  let v5 : BitVec 32 := Scalar.muli arg0 c4_i32_2
  let v6 : BitVec 32 := Scalar.addi v5 c0_i32_3
  let v7 : Index := Scalar.indexCast v6
  let c1 : Index := 1#32
  let c0_5 : Index := 0#32
  ![0, v7.toNat, 1, 0]
def k2_off3 (i : grid2.Coords) (c0_i32_7 : BitVec 32) : Fin 4 → Nat :=
  let c0_8 : Index := 0#32
  let arg0 : BitVec 32 := BitVec.ofNat 32 (i 0).val
  let c4_i32_6 : BitVec 32 := 4#32
  let v10 : BitVec 32 := Scalar.muli arg0 c4_i32_6
  let v11 : BitVec 32 := Scalar.addi v10 c0_i32_7
  let v12 : Index := Scalar.indexCast v11
  let c2 : Index := 2#32
  let c0_9 : Index := 0#32
  ![0, v12.toNat, 2, 0]
def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S16x18x18x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x144 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S16x16384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := .none

abbrev stage4_0 : Fin 1 → Memref sig .tc .vmem S4096x256 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .vmem S8x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev stage4_2 : Fin 1 → Memref sig .tc .vmem S8x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))

abbrev stage4_3 : Fin 1 → Memref sig .tc .vmem S8x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))

abbrev grid5 : Pipeline.Grid := ⟨1, ![4], ![false]⟩

def k5_off1 (i : grid5.Coords) (c0_i32 : BitVec 32) : Fin 4 → Nat :=
  let c0 : Index := 0#32
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  let c0_0 : Index := 0#32
  let c0_1 : Index := 0#32
  ![0, v2.toNat, 0, 0]
def k5_off2 (i : grid5.Coords) (c0_i32_3 : BitVec 32) : Fin 4 → Nat :=
  let c0_4 : Index := 0#32
  let arg0 : BitVec 32 := BitVec.ofNat 32 (i 0).val
  let c4_i32_2 : BitVec 32 := 4#32
  let v5 : BitVec 32 := Scalar.muli arg0 c4_i32_2
  let v6 : BitVec 32 := Scalar.addi v5 c0_i32_3
  let v7 : Index := Scalar.indexCast v6
  let c1 : Index := 1#32
  let c0_5 : Index := 0#32
  ![0, v7.toNat, 1, 0]
def k5_off3 (i : grid5.Coords) (c0_i32_7 : BitVec 32) : Fin 4 → Nat :=
  let c0_8 : Index := 0#32
  let arg0 : BitVec 32 := BitVec.ofNat 32 (i 0).val
  let c4_i32_6 : BitVec 32 := 4#32
  let v10 : BitVec 32 := Scalar.muli arg0 c4_i32_6
  let v11 : BitVec 32 := Scalar.addi v10 c0_i32_7
  let v12 : Index := Scalar.indexCast v11
  let c2 : Index := 2#32
  let c0_9 : Index := 0#32
  ![0, v12.toNat, 2, 0]
def cc5_transform_0 (i : grid5.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 1 → Memref sig .tc .vmem S16x18x18x256 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S64x144 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S8x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S16x16384 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S512x4096 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S4096x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S512x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S512x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := .none

abbrev stage7_0 : Fin 1 → Memref sig .tc .vmem S144x16384 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))

abbrev stage7_1 : Fin 1 → Memref sig .tc .vmem S8x144 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))

abbrev stage7_2 : Fin 1 → Memref sig .tc .vmem S8x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))

abbrev stage7_3 : Fin 1 → Memref sig .tc .vmem S16x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))

abbrev stage7_4 : Fin 1 → Memref sig .tc .vmem S16x1 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))

abbrev stage7_5 : Fin 1 → Memref sig .tc .vmem S16x16 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))

abbrev stage7_6 : Fin 1 → Memref sig .tc .vmem S16x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))

abbrev stage7_7 : Fin 1 → Memref sig .tc .vmem S16x256 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
-- ==== ReferenceIdeal.lean ====
abbrev S256x3x32x32 : Shape := ⟨4, ![256, 3, 32, 32]⟩
abbrev S16x3x3x3 : Shape := ⟨4, ![16, 3, 3, 3]⟩
abbrev S16 : Shape := ⟨1, ![16]⟩
abbrev S4x16x16x3x3 : Shape := ⟨5, ![4, 16, 16, 3, 3]⟩
abbrev S4x16 : Shape := ⟨2, ![4, 16]⟩
abbrev S8x16x3x3 : Shape := ⟨4, ![8, 16, 3, 3]⟩
abbrev S8 : Shape := ⟨1, ![8]⟩
abbrev S16x128 : Shape := ⟨2, ![16, 128]⟩
abbrev S10x16 : Shape := ⟨2, ![10, 16]⟩
abbrev S10 : Shape := ⟨1, ![10]⟩
abbrev S4x4096 : Shape := ⟨2, ![4, 4096]⟩
abbrev S4 : Shape := ⟨1, ![4]⟩
abbrev S4096x4096 : Shape := ⟨2, ![4096, 4096]⟩
abbrev S4096 : Shape := ⟨1, ![4096]⟩
abbrev S_ : Shape := ⟨0, ![]⟩
abbrev S256x3x34x34 : Shape := ⟨4, ![256, 3, 34, 34]⟩
abbrev S256x16x16x16 : Shape := ⟨4, ![256, 16, 16, 16]⟩
abbrev S256x3x16x16 : Shape := ⟨4, ![256, 3, 16, 16]⟩
abbrev S16x3x1x1 : Shape := ⟨4, ![16, 3, 1, 1]⟩
abbrev S16x3 : Shape := ⟨2, ![16, 3]⟩
abbrev S16x1x1 : Shape := ⟨3, ![16, 1, 1]⟩
abbrev S1x16x1x1 : Shape := ⟨4, ![1, 16, 1, 1]⟩
abbrev S256x4096 : Shape := ⟨2, ![256, 4096]⟩
abbrev S4096x4 : Shape := ⟨2, ![4096, 4]⟩
abbrev S256x4 : Shape := ⟨2, ![256, 4]⟩
abbrev S1x4 : Shape := ⟨2, ![1, 4]⟩
abbrev S256 : Shape := ⟨1, ![256]⟩
abbrev S256x1 : Shape := ⟨2, ![256, 1]⟩
abbrev S256x2 : Shape := ⟨2, ![256, 2]⟩
abbrev S256x16x18x18 : Shape := ⟨4, ![256, 16, 18, 18]⟩
abbrev S256x4x16x16x16 : Shape := ⟨5, ![256, 4, 16, 16, 16]⟩
abbrev S4x16x16x1x1 : Shape := ⟨5, ![4, 16, 16, 1, 1]⟩
abbrev S4x16x16 : Shape := ⟨3, ![4, 16, 16]⟩
abbrev S256x16x16x4x16 : Shape := ⟨5, ![256, 16, 16, 4, 16]⟩
abbrev S4x16x1x1 : Shape := ⟨4, ![4, 16, 1, 1]⟩
abbrev S1x4x16x1x1 : Shape := ⟨5, ![1, 4, 16, 1, 1]⟩
abbrev S256x1x16x16x16 : Shape := ⟨5, ![256, 1, 16, 16, 16]⟩
abbrev S1x4096 : Shape := ⟨2, ![1, 4096]⟩
abbrev S256x8x8x8 : Shape := ⟨4, ![256, 8, 8, 8]⟩
abbrev S256x16x8x8 : Shape := ⟨4, ![256, 16, 8, 8]⟩
abbrev S8x16x1x1 : Shape := ⟨4, ![8, 16, 1, 1]⟩
abbrev S8x16 : Shape := ⟨2, ![8, 16]⟩
abbrev S8x1x1 : Shape := ⟨3, ![8, 1, 1]⟩
abbrev S1x8x1x1 : Shape := ⟨4, ![1, 8, 1, 1]⟩
abbrev S256x8x4x2x4x2 : Shape := ⟨6, ![256, 8, 4, 2, 4, 2]⟩
abbrev S256x8x4x4 : Shape := ⟨4, ![256, 8, 4, 4]⟩
abbrev S256x128 : Shape := ⟨2, ![256, 128]⟩
abbrev S128x16 : Shape := ⟨2, ![128, 16]⟩
abbrev S256x16 : Shape := ⟨2, ![256, 16]⟩
abbrev S1x16 : Shape := ⟨2, ![1, 16]⟩
abbrev S16x10 : Shape := ⟨2, ![16, 10]⟩
abbrev S256x10 : Shape := ⟨2, ![256, 10]⟩
abbrev S1x10 : Shape := ⟨2, ![1, 10]⟩

abbrev nBuf : Space → Nat
  | .hbm => 500
  | .vmem => 0
  | .smem => 0
  | _ => 0

abbrev hbmTy0_0 (i : Nat) : BufTy := match i % 128 with
  | 0 => ⟨S256x3x32x32, .f32⟩
  | 1 => ⟨S16x3x3x3, .f32⟩
  | 2 => ⟨S16, .f32⟩
  | 3 => ⟨S4x16x16x3x3, .f32⟩
  | 4 => ⟨S4x16, .f32⟩
  | 5 => ⟨S8x16x3x3, .f32⟩
  | 6 => ⟨S8, .f32⟩
  | 7 => ⟨S16x128, .f32⟩
  | 8 => ⟨S16, .f32⟩
  | 9 => ⟨S10x16, .f32⟩
  | 10 => ⟨S10, .f32⟩
  | 11 => ⟨S4x4096, .f32⟩
  | 12 => ⟨S4, .f32⟩
  | 13 => ⟨S4096x4096, .f32⟩
  | 14 => ⟨S4096, .f32⟩
  | 15 => ⟨S_, .i32⟩
  | 16 => ⟨S_, .f32⟩
  | 17 => ⟨S256x3x34x34, .f32⟩
  | 18 => ⟨S_, .f32⟩
  | 19 => ⟨S256x16x16x16, .f32⟩
  | 20 => ⟨S256x3x16x16, .f32⟩
  | 21 => ⟨S16x3x1x1, .f32⟩
  | 22 => ⟨S16x3, .f32⟩
  | 23 => ⟨S256x16x16x16, .f32⟩
  | 24 => ⟨S256x16x16x16, .f32⟩
  | 25 => ⟨S256x16x16x16, .f32⟩
  | 26 => ⟨S256x3x16x16, .f32⟩
  | 27 => ⟨S16x3x1x1, .f32⟩
  | 28 => ⟨S16x3, .f32⟩
  | 29 => ⟨S256x16x16x16, .f32⟩
  | 30 => ⟨S256x16x16x16, .f32⟩
  | 31 => ⟨S256x16x16x16, .f32⟩
  | 32 => ⟨S256x3x16x16, .f32⟩
  | 33 => ⟨S16x3x1x1, .f32⟩
  | 34 => ⟨S16x3, .f32⟩
  | 35 => ⟨S256x16x16x16, .f32⟩
  | 36 => ⟨S256x16x16x16, .f32⟩
  | 37 => ⟨S256x16x16x16, .f32⟩
  | 38 => ⟨S256x3x16x16, .f32⟩
  | 39 => ⟨S16x3x1x1, .f32⟩
  | 40 => ⟨S16x3, .f32⟩
  | 41 => ⟨S256x16x16x16, .f32⟩
  | 42 => ⟨S256x16x16x16, .f32⟩
  | 43 => ⟨S256x16x16x16, .f32⟩
  | 44 => ⟨S256x3x16x16, .f32⟩
  | 45 => ⟨S16x3x1x1, .f32⟩
  | 46 => ⟨S16x3, .f32⟩
  | 47 => ⟨S256x16x16x16, .f32⟩
  | 48 => ⟨S256x16x16x16, .f32⟩
  | 49 => ⟨S256x16x16x16, .f32⟩
  | 50 => ⟨S256x3x16x16, .f32⟩
  | 51 => ⟨S16x3x1x1, .f32⟩
  | 52 => ⟨S16x3, .f32⟩
  | 53 => ⟨S256x16x16x16, .f32⟩
  | 54 => ⟨S256x16x16x16, .f32⟩
  | 55 => ⟨S256x16x16x16, .f32⟩
  | 56 => ⟨S256x3x16x16, .f32⟩
  | 57 => ⟨S16x3x1x1, .f32⟩
  | 58 => ⟨S16x3, .f32⟩
  | 59 => ⟨S256x16x16x16, .f32⟩
  | 60 => ⟨S256x16x16x16, .f32⟩
  | 61 => ⟨S256x16x16x16, .f32⟩
  | 62 => ⟨S256x3x16x16, .f32⟩
  | 63 => ⟨S16x3x1x1, .f32⟩
  | 64 => ⟨S16x3, .f32⟩
  | 65 => ⟨S256x16x16x16, .f32⟩
  | 66 => ⟨S256x16x16x16, .f32⟩
  | 67 => ⟨S256x16x16x16, .f32⟩
  | 68 => ⟨S256x3x16x16, .f32⟩
  | 69 => ⟨S16x3x1x1, .f32⟩
  | 70 => ⟨S16x3, .f32⟩
  | 71 => ⟨S256x16x16x16, .f32⟩
  | 72 => ⟨S256x16x16x16, .f32⟩
  | 73 => ⟨S256x16x16x16, .f32⟩
  | 74 => ⟨S16x1x1, .f32⟩
  | 75 => ⟨S1x16x1x1, .f32⟩
  | 76 => ⟨S256x16x16x16, .f32⟩
  | 77 => ⟨S256x16x16x16, .f32⟩
  | 78 => ⟨S_, .f32⟩
  | 79 => ⟨S256x16x16x16, .f32⟩
  | 80 => ⟨S256x16x16x16, .f32⟩
  | 81 => ⟨S256x4096, .f32⟩
  | 82 => ⟨S4096x4, .f32⟩
  | 83 => ⟨S256x4, .f32⟩
  | 84 => ⟨S1x4, .f32⟩
  | 85 => ⟨S256x4, .f32⟩
  | 86 => ⟨S256x4, .f32⟩
  | 87 => ⟨S_, .f32⟩
  | 88 => ⟨S256, .f32⟩
  | 89 => ⟨S_, .f32⟩
  | 90 => ⟨S256, .f32⟩
  | 91 => ⟨S256, .f32⟩
  | 92 => ⟨S256x1, .f32⟩
  | 93 => ⟨S256x4, .f32⟩
  | 94 => ⟨S256x4, .f32⟩
  | 95 => ⟨S256x4, .f32⟩
  | 96 => ⟨S_, .f32⟩
  | 97 => ⟨S256, .f32⟩
  | 98 => ⟨S256x1, .f32⟩
  | 99 => ⟨S256x4, .f32⟩
  | 100 => ⟨S256x4, .f32⟩
  | 101 => ⟨S256x2, .f32⟩
  | 102 => ⟨S256x2, .i32⟩
  | 103 => ⟨S_, .f32⟩
  | 104 => ⟨S256, .f32⟩
  | 105 => ⟨S256x1, .f32⟩
  | 106 => ⟨S256x2, .f32⟩
  | 107 => ⟨S256x2, .f32⟩
  | 108 => ⟨S_, .f32⟩
  | 109 => ⟨S256x2, .f32⟩
  | 110 => ⟨S256x2, .f32⟩
  | 111 => ⟨S256x16x16x16, .f32⟩
  | 112 => ⟨S_, .i32⟩
  | 113 => ⟨S_, .f32⟩
  | 114 => ⟨S256x16x18x18, .f32⟩
  | 115 => ⟨S_, .f32⟩
  | 116 => ⟨S256x4x16x16x16, .f32⟩
  | 117 => ⟨S256x16x16x16, .f32⟩
  | 118 => ⟨S4x16x16x1x1, .f32⟩
  | 119 => ⟨S4x16x16, .f32⟩
  | 120 => ⟨S256x16x16x4x16, .f32⟩
  | 121 => ⟨S256x4x16x16x16, .f32⟩
  | 122 => ⟨S256x4x16x16x16, .f32⟩
  | 123 => ⟨S256x16x16x16, .f32⟩
  | 124 => ⟨S4x16x16x1x1, .f32⟩
  | 125 => ⟨S4x16x16, .f32⟩
  | 126 => ⟨S256x16x16x4x16, .f32⟩
  | 127 => ⟨S256x4x16x16x16, .f32⟩
  | _ => ⟨S256x3x32x32, .f32⟩

abbrev hbmTy0_1 (i : Nat) : BufTy := match i % 128 with
  | 0 => ⟨S256x4x16x16x16, .f32⟩
  | 1 => ⟨S256x16x16x16, .f32⟩
  | 2 => ⟨S4x16x16x1x1, .f32⟩
  | 3 => ⟨S4x16x16, .f32⟩
  | 4 => ⟨S256x16x16x4x16, .f32⟩
  | 5 => ⟨S256x4x16x16x16, .f32⟩
  | 6 => ⟨S256x4x16x16x16, .f32⟩
  | 7 => ⟨S256x16x16x16, .f32⟩
  | 8 => ⟨S4x16x16x1x1, .f32⟩
  | 9 => ⟨S4x16x16, .f32⟩
  | 10 => ⟨S256x16x16x4x16, .f32⟩
  | 11 => ⟨S256x4x16x16x16, .f32⟩
  | 12 => ⟨S256x4x16x16x16, .f32⟩
  | 13 => ⟨S256x16x16x16, .f32⟩
  | 14 => ⟨S4x16x16x1x1, .f32⟩
  | 15 => ⟨S4x16x16, .f32⟩
  | 16 => ⟨S256x16x16x4x16, .f32⟩
  | 17 => ⟨S256x4x16x16x16, .f32⟩
  | 18 => ⟨S256x4x16x16x16, .f32⟩
  | 19 => ⟨S256x16x16x16, .f32⟩
  | 20 => ⟨S4x16x16x1x1, .f32⟩
  | 21 => ⟨S4x16x16, .f32⟩
  | 22 => ⟨S256x16x16x4x16, .f32⟩
  | 23 => ⟨S256x4x16x16x16, .f32⟩
  | 24 => ⟨S256x4x16x16x16, .f32⟩
  | 25 => ⟨S256x16x16x16, .f32⟩
  | 26 => ⟨S4x16x16x1x1, .f32⟩
  | 27 => ⟨S4x16x16, .f32⟩
  | 28 => ⟨S256x16x16x4x16, .f32⟩
  | 29 => ⟨S256x4x16x16x16, .f32⟩
  | 30 => ⟨S256x4x16x16x16, .f32⟩
  | 31 => ⟨S256x16x16x16, .f32⟩
  | 32 => ⟨S4x16x16x1x1, .f32⟩
  | 33 => ⟨S4x16x16, .f32⟩
  | 34 => ⟨S256x16x16x4x16, .f32⟩
  | 35 => ⟨S256x4x16x16x16, .f32⟩
  | 36 => ⟨S256x4x16x16x16, .f32⟩
  | 37 => ⟨S256x16x16x16, .f32⟩
  | 38 => ⟨S4x16x16x1x1, .f32⟩
  | 39 => ⟨S4x16x16, .f32⟩
  | 40 => ⟨S256x16x16x4x16, .f32⟩
  | 41 => ⟨S256x4x16x16x16, .f32⟩
  | 42 => ⟨S256x4x16x16x16, .f32⟩
  | 43 => ⟨S4x16x1x1, .f32⟩
  | 44 => ⟨S1x4x16x1x1, .f32⟩
  | 45 => ⟨S256x4x16x16x16, .f32⟩
  | 46 => ⟨S256x4x16x16x16, .f32⟩
  | 47 => ⟨S_, .f32⟩
  | 48 => ⟨S256x4x16x16x16, .f32⟩
  | 49 => ⟨S256x4x16x16x16, .f32⟩
  | 50 => ⟨S_, .f32⟩
  | 51 => ⟨S256x4096, .f32⟩
  | 52 => ⟨S256x1x16x16x16, .f32⟩
  | 53 => ⟨S256x16x16x16, .f32⟩
  | 54 => ⟨S256x4096, .f32⟩
  | 55 => ⟨S_, .i32⟩
  | 56 => ⟨S256x2, .i32⟩
  | 57 => ⟨S256x2, .i1⟩
  | 58 => ⟨S_, .f32⟩
  | 59 => ⟨S_, .f32⟩
  | 60 => ⟨S256x2, .f32⟩
  | 61 => ⟨S256x2, .f32⟩
  | 62 => ⟨S_, .f32⟩
  | 63 => ⟨S256, .f32⟩
  | 64 => ⟨S256x1, .f32⟩
  | 65 => ⟨S256x4096, .f32⟩
  | 66 => ⟨S256x4096, .f32⟩
  | 67 => ⟨S256x4096, .f32⟩
  | 68 => ⟨S256x1x16x16x16, .f32⟩
  | 69 => ⟨S256x16x16x16, .f32⟩
  | 70 => ⟨S256x4096, .f32⟩
  | 71 => ⟨S_, .i32⟩
  | 72 => ⟨S256x2, .i32⟩
  | 73 => ⟨S256x2, .i1⟩
  | 74 => ⟨S_, .f32⟩
  | 75 => ⟨S_, .f32⟩
  | 76 => ⟨S256x2, .f32⟩
  | 77 => ⟨S256x2, .f32⟩
  | 78 => ⟨S_, .f32⟩
  | 79 => ⟨S256, .f32⟩
  | 80 => ⟨S256x1, .f32⟩
  | 81 => ⟨S256x4096, .f32⟩
  | 82 => ⟨S256x4096, .f32⟩
  | 83 => ⟨S256x4096, .f32⟩
  | 84 => ⟨S256x1x16x16x16, .f32⟩
  | 85 => ⟨S256x16x16x16, .f32⟩
  | 86 => ⟨S256x4096, .f32⟩
  | 87 => ⟨S_, .i32⟩
  | 88 => ⟨S256x2, .i32⟩
  | 89 => ⟨S256x2, .i1⟩
  | 90 => ⟨S_, .f32⟩
  | 91 => ⟨S_, .f32⟩
  | 92 => ⟨S256x2, .f32⟩
  | 93 => ⟨S256x2, .f32⟩
  | 94 => ⟨S_, .f32⟩
  | 95 => ⟨S256, .f32⟩
  | 96 => ⟨S256x1, .f32⟩
  | 97 => ⟨S256x4096, .f32⟩
  | 98 => ⟨S256x4096, .f32⟩
  | 99 => ⟨S256x4096, .f32⟩
  | 100 => ⟨S256x1x16x16x16, .f32⟩
  | 101 => ⟨S256x16x16x16, .f32⟩
  | 102 => ⟨S256x4096, .f32⟩
  | 103 => ⟨S_, .i32⟩
  | 104 => ⟨S256x2, .i32⟩
  | 105 => ⟨S256x2, .i1⟩
  | 106 => ⟨S_, .f32⟩
  | 107 => ⟨S_, .f32⟩
  | 108 => ⟨S256x2, .f32⟩
  | 109 => ⟨S256x2, .f32⟩
  | 110 => ⟨S_, .f32⟩
  | 111 => ⟨S256, .f32⟩
  | 112 => ⟨S256x1, .f32⟩
  | 113 => ⟨S256x4096, .f32⟩
  | 114 => ⟨S256x4096, .f32⟩
  | 115 => ⟨S256x4096, .f32⟩
  | 116 => ⟨S4096x4096, .f32⟩
  | 117 => ⟨S256x4096, .f32⟩
  | 118 => ⟨S1x4096, .f32⟩
  | 119 => ⟨S256x4096, .f32⟩
  | 120 => ⟨S256x4096, .f32⟩
  | 121 => ⟨S4096x4, .f32⟩
  | 122 => ⟨S256x4, .f32⟩
  | 123 => ⟨S1x4, .f32⟩
  | 124 => ⟨S256x4, .f32⟩
  | 125 => ⟨S256x4, .f32⟩
  | 126 => ⟨S_, .f32⟩
  | 127 => ⟨S256, .f32⟩
  | _ => ⟨S256x3x32x32, .f32⟩

abbrev hbmTy0_2 (i : Nat) : BufTy := match i % 128 with
  | 0 => ⟨S_, .f32⟩
  | 1 => ⟨S256, .f32⟩
  | 2 => ⟨S256, .f32⟩
  | 3 => ⟨S256x1, .f32⟩
  | 4 => ⟨S256x4, .f32⟩
  | 5 => ⟨S256x4, .f32⟩
  | 6 => ⟨S256x4, .f32⟩
  | 7 => ⟨S_, .f32⟩
  | 8 => ⟨S256, .f32⟩
  | 9 => ⟨S256x1, .f32⟩
  | 10 => ⟨S256x4, .f32⟩
  | 11 => ⟨S256x4, .f32⟩
  | 12 => ⟨S256x2, .f32⟩
  | 13 => ⟨S256x2, .i32⟩
  | 14 => ⟨S_, .f32⟩
  | 15 => ⟨S256, .f32⟩
  | 16 => ⟨S256x1, .f32⟩
  | 17 => ⟨S256x2, .f32⟩
  | 18 => ⟨S256x2, .f32⟩
  | 19 => ⟨S_, .f32⟩
  | 20 => ⟨S256x2, .f32⟩
  | 21 => ⟨S256x2, .f32⟩
  | 22 => ⟨S256x16x16x16, .f32⟩
  | 23 => ⟨S_, .i32⟩
  | 24 => ⟨S_, .f32⟩
  | 25 => ⟨S256x16x18x18, .f32⟩
  | 26 => ⟨S_, .f32⟩
  | 27 => ⟨S256x4x16x16x16, .f32⟩
  | 28 => ⟨S256x16x16x16, .f32⟩
  | 29 => ⟨S4x16x16x1x1, .f32⟩
  | 30 => ⟨S4x16x16, .f32⟩
  | 31 => ⟨S256x16x16x4x16, .f32⟩
  | 32 => ⟨S256x4x16x16x16, .f32⟩
  | 33 => ⟨S256x4x16x16x16, .f32⟩
  | 34 => ⟨S256x16x16x16, .f32⟩
  | 35 => ⟨S4x16x16x1x1, .f32⟩
  | 36 => ⟨S4x16x16, .f32⟩
  | 37 => ⟨S256x16x16x4x16, .f32⟩
  | 38 => ⟨S256x4x16x16x16, .f32⟩
  | 39 => ⟨S256x4x16x16x16, .f32⟩
  | 40 => ⟨S256x16x16x16, .f32⟩
  | 41 => ⟨S4x16x16x1x1, .f32⟩
  | 42 => ⟨S4x16x16, .f32⟩
  | 43 => ⟨S256x16x16x4x16, .f32⟩
  | 44 => ⟨S256x4x16x16x16, .f32⟩
  | 45 => ⟨S256x4x16x16x16, .f32⟩
  | 46 => ⟨S256x16x16x16, .f32⟩
  | 47 => ⟨S4x16x16x1x1, .f32⟩
  | 48 => ⟨S4x16x16, .f32⟩
  | 49 => ⟨S256x16x16x4x16, .f32⟩
  | 50 => ⟨S256x4x16x16x16, .f32⟩
  | 51 => ⟨S256x4x16x16x16, .f32⟩
  | 52 => ⟨S256x16x16x16, .f32⟩
  | 53 => ⟨S4x16x16x1x1, .f32⟩
  | 54 => ⟨S4x16x16, .f32⟩
  | 55 => ⟨S256x16x16x4x16, .f32⟩
  | 56 => ⟨S256x4x16x16x16, .f32⟩
  | 57 => ⟨S256x4x16x16x16, .f32⟩
  | 58 => ⟨S256x16x16x16, .f32⟩
  | 59 => ⟨S4x16x16x1x1, .f32⟩
  | 60 => ⟨S4x16x16, .f32⟩
  | 61 => ⟨S256x16x16x4x16, .f32⟩
  | 62 => ⟨S256x4x16x16x16, .f32⟩
  | 63 => ⟨S256x4x16x16x16, .f32⟩
  | 64 => ⟨S256x16x16x16, .f32⟩
  | 65 => ⟨S4x16x16x1x1, .f32⟩
  | 66 => ⟨S4x16x16, .f32⟩
  | 67 => ⟨S256x16x16x4x16, .f32⟩
  | 68 => ⟨S256x4x16x16x16, .f32⟩
  | 69 => ⟨S256x4x16x16x16, .f32⟩
  | 70 => ⟨S256x16x16x16, .f32⟩
  | 71 => ⟨S4x16x16x1x1, .f32⟩
  | 72 => ⟨S4x16x16, .f32⟩
  | 73 => ⟨S256x16x16x4x16, .f32⟩
  | 74 => ⟨S256x4x16x16x16, .f32⟩
  | 75 => ⟨S256x4x16x16x16, .f32⟩
  | 76 => ⟨S256x16x16x16, .f32⟩
  | 77 => ⟨S4x16x16x1x1, .f32⟩
  | 78 => ⟨S4x16x16, .f32⟩
  | 79 => ⟨S256x16x16x4x16, .f32⟩
  | 80 => ⟨S256x4x16x16x16, .f32⟩
  | 81 => ⟨S256x4x16x16x16, .f32⟩
  | 82 => ⟨S4x16x1x1, .f32⟩
  | 83 => ⟨S1x4x16x1x1, .f32⟩
  | 84 => ⟨S256x4x16x16x16, .f32⟩
  | 85 => ⟨S256x4x16x16x16, .f32⟩
  | 86 => ⟨S_, .f32⟩
  | 87 => ⟨S256x4x16x16x16, .f32⟩
  | 88 => ⟨S256x4x16x16x16, .f32⟩
  | 89 => ⟨S_, .f32⟩
  | 90 => ⟨S256x4096, .f32⟩
  | 91 => ⟨S256x1x16x16x16, .f32⟩
  | 92 => ⟨S256x16x16x16, .f32⟩
  | 93 => ⟨S256x4096, .f32⟩
  | 94 => ⟨S_, .i32⟩
  | 95 => ⟨S256x2, .i32⟩
  | 96 => ⟨S256x2, .i1⟩
  | 97 => ⟨S_, .f32⟩
  | 98 => ⟨S_, .f32⟩
  | 99 => ⟨S256x2, .f32⟩
  | 100 => ⟨S256x2, .f32⟩
  | 101 => ⟨S_, .f32⟩
  | 102 => ⟨S256, .f32⟩
  | 103 => ⟨S256x1, .f32⟩
  | 104 => ⟨S256x4096, .f32⟩
  | 105 => ⟨S256x4096, .f32⟩
  | 106 => ⟨S256x4096, .f32⟩
  | 107 => ⟨S256x1x16x16x16, .f32⟩
  | 108 => ⟨S256x16x16x16, .f32⟩
  | 109 => ⟨S256x4096, .f32⟩
  | 110 => ⟨S_, .i32⟩
  | 111 => ⟨S256x2, .i32⟩
  | 112 => ⟨S256x2, .i1⟩
  | 113 => ⟨S_, .f32⟩
  | 114 => ⟨S_, .f32⟩
  | 115 => ⟨S256x2, .f32⟩
  | 116 => ⟨S256x2, .f32⟩
  | 117 => ⟨S_, .f32⟩
  | 118 => ⟨S256, .f32⟩
  | 119 => ⟨S256x1, .f32⟩
  | 120 => ⟨S256x4096, .f32⟩
  | 121 => ⟨S256x4096, .f32⟩
  | 122 => ⟨S256x4096, .f32⟩
  | 123 => ⟨S256x1x16x16x16, .f32⟩
  | 124 => ⟨S256x16x16x16, .f32⟩
  | 125 => ⟨S256x4096, .f32⟩
  | 126 => ⟨S_, .i32⟩
  | 127 => ⟨S256x2, .i32⟩
  | _ => ⟨S256x3x32x32, .f32⟩

abbrev hbmTy0_3 (i : Nat) : BufTy := match i % 128 with
  | 0 => ⟨S256x2, .i1⟩
  | 1 => ⟨S_, .f32⟩
  | 2 => ⟨S_, .f32⟩
  | 3 => ⟨S256x2, .f32⟩
  | 4 => ⟨S256x2, .f32⟩
  | 5 => ⟨S_, .f32⟩
  | 6 => ⟨S256, .f32⟩
  | 7 => ⟨S256x1, .f32⟩
  | 8 => ⟨S256x4096, .f32⟩
  | 9 => ⟨S256x4096, .f32⟩
  | 10 => ⟨S256x4096, .f32⟩
  | 11 => ⟨S256x1x16x16x16, .f32⟩
  | 12 => ⟨S256x16x16x16, .f32⟩
  | 13 => ⟨S256x4096, .f32⟩
  | 14 => ⟨S_, .i32⟩
  | 15 => ⟨S256x2, .i32⟩
  | 16 => ⟨S256x2, .i1⟩
  | 17 => ⟨S_, .f32⟩
  | 18 => ⟨S_, .f32⟩
  | 19 => ⟨S256x2, .f32⟩
  | 20 => ⟨S256x2, .f32⟩
  | 21 => ⟨S_, .f32⟩
  | 22 => ⟨S256, .f32⟩
  | 23 => ⟨S256x1, .f32⟩
  | 24 => ⟨S256x4096, .f32⟩
  | 25 => ⟨S256x4096, .f32⟩
  | 26 => ⟨S256x4096, .f32⟩
  | 27 => ⟨S4096x4096, .f32⟩
  | 28 => ⟨S256x4096, .f32⟩
  | 29 => ⟨S1x4096, .f32⟩
  | 30 => ⟨S256x4096, .f32⟩
  | 31 => ⟨S256x4096, .f32⟩
  | 32 => ⟨S256x16x16x16, .f32⟩
  | 33 => ⟨S_, .i32⟩
  | 34 => ⟨S_, .f32⟩
  | 35 => ⟨S256x16x18x18, .f32⟩
  | 36 => ⟨S_, .f32⟩
  | 37 => ⟨S256x8x8x8, .f32⟩
  | 38 => ⟨S256x16x8x8, .f32⟩
  | 39 => ⟨S8x16x1x1, .f32⟩
  | 40 => ⟨S8x16, .f32⟩
  | 41 => ⟨S256x8x8x8, .f32⟩
  | 42 => ⟨S256x8x8x8, .f32⟩
  | 43 => ⟨S256x8x8x8, .f32⟩
  | 44 => ⟨S256x16x8x8, .f32⟩
  | 45 => ⟨S8x16x1x1, .f32⟩
  | 46 => ⟨S8x16, .f32⟩
  | 47 => ⟨S256x8x8x8, .f32⟩
  | 48 => ⟨S256x8x8x8, .f32⟩
  | 49 => ⟨S256x8x8x8, .f32⟩
  | 50 => ⟨S256x16x8x8, .f32⟩
  | 51 => ⟨S8x16x1x1, .f32⟩
  | 52 => ⟨S8x16, .f32⟩
  | 53 => ⟨S256x8x8x8, .f32⟩
  | 54 => ⟨S256x8x8x8, .f32⟩
  | 55 => ⟨S256x8x8x8, .f32⟩
  | 56 => ⟨S256x16x8x8, .f32⟩
  | 57 => ⟨S8x16x1x1, .f32⟩
  | 58 => ⟨S8x16, .f32⟩
  | 59 => ⟨S256x8x8x8, .f32⟩
  | 60 => ⟨S256x8x8x8, .f32⟩
  | 61 => ⟨S256x8x8x8, .f32⟩
  | 62 => ⟨S256x16x8x8, .f32⟩
  | 63 => ⟨S8x16x1x1, .f32⟩
  | 64 => ⟨S8x16, .f32⟩
  | 65 => ⟨S256x8x8x8, .f32⟩
  | 66 => ⟨S256x8x8x8, .f32⟩
  | 67 => ⟨S256x8x8x8, .f32⟩
  | 68 => ⟨S256x16x8x8, .f32⟩
  | 69 => ⟨S8x16x1x1, .f32⟩
  | 70 => ⟨S8x16, .f32⟩
  | 71 => ⟨S256x8x8x8, .f32⟩
  | 72 => ⟨S256x8x8x8, .f32⟩
  | 73 => ⟨S256x8x8x8, .f32⟩
  | 74 => ⟨S256x16x8x8, .f32⟩
  | 75 => ⟨S8x16x1x1, .f32⟩
  | 76 => ⟨S8x16, .f32⟩
  | 77 => ⟨S256x8x8x8, .f32⟩
  | 78 => ⟨S256x8x8x8, .f32⟩
  | 79 => ⟨S256x8x8x8, .f32⟩
  | 80 => ⟨S256x16x8x8, .f32⟩
  | 81 => ⟨S8x16x1x1, .f32⟩
  | 82 => ⟨S8x16, .f32⟩
  | 83 => ⟨S256x8x8x8, .f32⟩
  | 84 => ⟨S256x8x8x8, .f32⟩
  | 85 => ⟨S256x8x8x8, .f32⟩
  | 86 => ⟨S256x16x8x8, .f32⟩
  | 87 => ⟨S8x16x1x1, .f32⟩
  | 88 => ⟨S8x16, .f32⟩
  | 89 => ⟨S256x8x8x8, .f32⟩
  | 90 => ⟨S256x8x8x8, .f32⟩
  | 91 => ⟨S256x8x8x8, .f32⟩
  | 92 => ⟨S8x1x1, .f32⟩
  | 93 => ⟨S1x8x1x1, .f32⟩
  | 94 => ⟨S256x8x8x8, .f32⟩
  | 95 => ⟨S256x8x8x8, .f32⟩
  | 96 => ⟨S_, .f32⟩
  | 97 => ⟨S256x8x8x8, .f32⟩
  | 98 => ⟨S256x8x8x8, .f32⟩
  | 99 => ⟨S256x8x4x2x4x2, .f32⟩
  | 100 => ⟨S_, .f32⟩
  | 101 => ⟨S256x8x4x4, .f32⟩
  | 102 => ⟨S256x128, .f32⟩
  | 103 => ⟨S128x16, .f32⟩
  | 104 => ⟨S256x16, .f32⟩
  | 105 => ⟨S1x16, .f32⟩
  | 106 => ⟨S256x16, .f32⟩
  | 107 => ⟨S256x16, .f32⟩
  | 108 => ⟨S_, .f32⟩
  | 109 => ⟨S256x16, .f32⟩
  | 110 => ⟨S256x16, .f32⟩
  | 111 => ⟨S16x10, .f32⟩
  | 112 => ⟨S256x10, .f32⟩
  | 113 => ⟨S1x10, .f32⟩
  | 114 => ⟨S256x10, .f32⟩
  | 115 => ⟨S256x10, .f32⟩
  | _ => ⟨S256x3x32x32, .f32⟩

abbrev hbmTy (i : Nat) : BufTy := match i / 128 with
  | 0 => hbmTy0_0 i
  | 1 => hbmTy0_1 i
  | 2 => hbmTy0_2 i
  | 3 => hbmTy0_3 i
  | _ => ⟨S256x3x32x32, .f32⟩

abbrev bufTy : (tb : Table) → Fin (tcTables nBuf tb) → BufTy
  | .hbm, ⟨i, _⟩ => hbmTy i
  | _, _ => ⟨S256x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_cst : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call1_cst : Ref sig .tc := ⟨.hbm, 78, rfl⟩
abbrev main_call1_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_0 : Ref sig .tc := ⟨.hbm, 87, rfl⟩
abbrev main_v67 : Ref sig .tc := ⟨.hbm, 88, rfl⟩
abbrev main_cst_1 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_cst_2 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_values : Ref sig .tc := ⟨.hbm, 101, rfl⟩
abbrev main_indices : Ref sig .tc := ⟨.hbm, 102, rfl⟩
abbrev main_cst_3 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_4 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_c_5 : Ref sig .tc := ⟨.hbm, 112, rfl⟩
abbrev main_call2_v0 : Ref sig .tc := ⟨.hbm, 113, rfl⟩
abbrev main_v85 : Ref sig .tc := ⟨.hbm, 114, rfl⟩
abbrev main_cst_6 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_call3_cst : Ref sig .tc := ⟨.hbm, 175, rfl⟩
abbrev main_call3_v0 : Ref sig .tc := ⟨.hbm, 176, rfl⟩
abbrev main_v145 : Ref sig .tc := ⟨.hbm, 177, rfl⟩
abbrev main_cst_7 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_c_8 : Ref sig .tc := ⟨.hbm, 183, rfl⟩
abbrev main_v150 : Ref sig .tc := ⟨.hbm, 184, rfl⟩
abbrev main_v151 : Ref sig .tc := ⟨.hbm, 185, rfl⟩
abbrev main_cst_9 : Ref sig .tc := ⟨.hbm, 186, rfl⟩
abbrev main_call4_v0 : Ref sig .tc := ⟨.hbm, 187, rfl⟩
abbrev main_call4_v1 : Ref sig .tc := ⟨.hbm, 188, rfl⟩
abbrev main_v152 : Ref sig .tc := ⟨.hbm, 189, rfl⟩
abbrev main_cst_10 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_c_11 : Ref sig .tc := ⟨.hbm, 199, rfl⟩
abbrev main_v161 : Ref sig .tc := ⟨.hbm, 200, rfl⟩
abbrev main_v162 : Ref sig .tc := ⟨.hbm, 201, rfl⟩
abbrev main_cst_12 : Ref sig .tc := ⟨.hbm, 202, rfl⟩
abbrev main_call5_v0 : Ref sig .tc := ⟨.hbm, 203, rfl⟩
abbrev main_call5_v1 : Ref sig .tc := ⟨.hbm, 204, rfl⟩
abbrev main_v163 : Ref sig .tc := ⟨.hbm, 205, rfl⟩
abbrev main_cst_13 : Ref sig .tc := ⟨.hbm, 206, rfl⟩
abbrev main_v164 : Ref sig .tc := ⟨.hbm, 207, rfl⟩
abbrev main_v165 : Ref sig .tc := ⟨.hbm, 208, rfl⟩
abbrev main_v166 : Ref sig .tc := ⟨.hbm, 209, rfl⟩
abbrev main_v167 : Ref sig .tc := ⟨.hbm, 210, rfl⟩
abbrev main_v168 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_c_14 : Ref sig .tc := ⟨.hbm, 215, rfl⟩
abbrev main_v172 : Ref sig .tc := ⟨.hbm, 216, rfl⟩
abbrev main_v173 : Ref sig .tc := ⟨.hbm, 217, rfl⟩
abbrev main_cst_15 : Ref sig .tc := ⟨.hbm, 218, rfl⟩
abbrev main_call6_v0 : Ref sig .tc := ⟨.hbm, 219, rfl⟩
abbrev main_call6_v1 : Ref sig .tc := ⟨.hbm, 220, rfl⟩
abbrev main_v174 : Ref sig .tc := ⟨.hbm, 221, rfl⟩
abbrev main_cst_16 : Ref sig .tc := ⟨.hbm, 222, rfl⟩
abbrev main_v175 : Ref sig .tc := ⟨.hbm, 223, rfl⟩
abbrev main_v176 : Ref sig .tc := ⟨.hbm, 224, rfl⟩
abbrev main_v177 : Ref sig .tc := ⟨.hbm, 225, rfl⟩
abbrev main_v178 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_c_17 : Ref sig .tc := ⟨.hbm, 231, rfl⟩
abbrev main_v183 : Ref sig .tc := ⟨.hbm, 232, rfl⟩
abbrev main_v184 : Ref sig .tc := ⟨.hbm, 233, rfl⟩
abbrev main_cst_18 : Ref sig .tc := ⟨.hbm, 234, rfl⟩
abbrev main_call7_v0 : Ref sig .tc := ⟨.hbm, 235, rfl⟩
abbrev main_call7_v1 : Ref sig .tc := ⟨.hbm, 236, rfl⟩
abbrev main_v185 : Ref sig .tc := ⟨.hbm, 237, rfl⟩
abbrev main_cst_19 : Ref sig .tc := ⟨.hbm, 238, rfl⟩
abbrev main_v186 : Ref sig .tc := ⟨.hbm, 239, rfl⟩
abbrev main_v187 : Ref sig .tc := ⟨.hbm, 240, rfl⟩
abbrev main_v188 : Ref sig .tc := ⟨.hbm, 241, rfl⟩
abbrev main_v189 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_cst_20 : Ref sig .tc := ⟨.hbm, 254, rfl⟩
abbrev main_v201 : Ref sig .tc := ⟨.hbm, 255, rfl⟩
abbrev main_cst_21 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_v207 : Ref sig .tc := ⟨.hbm, 262, rfl⟩
abbrev main_cst_22 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_values_23 : Ref sig .tc := ⟨.hbm, 268, rfl⟩
abbrev main_indices_24 : Ref sig .tc := ⟨.hbm, 269, rfl⟩
abbrev main_cst_25 : Ref sig .tc := ⟨.hbm, 270, rfl⟩
abbrev main_v212 : Ref sig .tc := ⟨.hbm, 271, rfl⟩
abbrev main_v213 : Ref sig .tc := ⟨.hbm, 272, rfl⟩
abbrev main_v214 : Ref sig .tc := ⟨.hbm, 273, rfl⟩
abbrev main_v215 : Ref sig .tc := ⟨.hbm, 274, rfl⟩
abbrev main_cst_26 : Ref sig .tc := ⟨.hbm, 275, rfl⟩
abbrev main_v216 : Ref sig .tc := ⟨.hbm, 276, rfl⟩
abbrev main_v217 : Ref sig .tc := ⟨.hbm, 277, rfl⟩
abbrev main_v218 : Ref sig .tc := ⟨.hbm, 278, rfl⟩
abbrev main_c_27 : Ref sig .tc := ⟨.hbm, 279, rfl⟩
abbrev main_call8_v0 : Ref sig .tc := ⟨.hbm, 280, rfl⟩
abbrev main_v219 : Ref sig .tc := ⟨.hbm, 281, rfl⟩
abbrev main_cst_28 : Ref sig .tc := ⟨.hbm, 282, rfl⟩
abbrev main_v220 : Ref sig .tc := ⟨.hbm, 283, rfl⟩
abbrev main_v221 : Ref sig .tc := ⟨.hbm, 284, rfl⟩
abbrev main_v222 : Ref sig .tc := ⟨.hbm, 285, rfl⟩
abbrev main_v223 : Ref sig .tc := ⟨.hbm, 286, rfl⟩
abbrev main_v224 : Ref sig .tc := ⟨.hbm, 287, rfl⟩
abbrev main_v225 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_v267 : Ref sig .tc := ⟨.hbm, 330, rfl⟩
abbrev main_v268 : Ref sig .tc := ⟨.hbm, 331, rfl⟩
abbrev main_v269 : Ref sig .tc := ⟨.hbm, 332, rfl⟩
abbrev main_v270 : Ref sig .tc := ⟨.hbm, 333, rfl⟩
abbrev main_v271 : Ref sig .tc := ⟨.hbm, 334, rfl⟩
abbrev main_v272 : Ref sig .tc := ⟨.hbm, 335, rfl⟩
abbrev main_v273 : Ref sig .tc := ⟨.hbm, 336, rfl⟩
abbrev main_v274 : Ref sig .tc := ⟨.hbm, 337, rfl⟩
abbrev main_v275 : Ref sig .tc := ⟨.hbm, 338, rfl⟩
abbrev main_v276 : Ref sig .tc := ⟨.hbm, 339, rfl⟩
abbrev main_v277 : Ref sig .tc := ⟨.hbm, 340, rfl⟩
abbrev main_v278 : Ref sig .tc := ⟨.hbm, 341, rfl⟩
abbrev main_call9_cst : Ref sig .tc := ⟨.hbm, 342, rfl⟩
abbrev main_call9_v0 : Ref sig .tc := ⟨.hbm, 343, rfl⟩
abbrev main_v279 : Ref sig .tc := ⟨.hbm, 344, rfl⟩
abbrev main_cst_29 : Ref sig .tc := ⟨.hbm, 345, rfl⟩
abbrev main_v280 : Ref sig .tc := ⟨.hbm, 346, rfl⟩
abbrev main_v281 : Ref sig .tc := ⟨.hbm, 347, rfl⟩
abbrev main_v282 : Ref sig .tc := ⟨.hbm, 348, rfl⟩
abbrev main_v283 : Ref sig .tc := ⟨.hbm, 349, rfl⟩
abbrev main_c_30 : Ref sig .tc := ⟨.hbm, 350, rfl⟩
abbrev main_v284 : Ref sig .tc := ⟨.hbm, 351, rfl⟩
abbrev main_v285 : Ref sig .tc := ⟨.hbm, 352, rfl⟩
abbrev main_cst_31 : Ref sig .tc := ⟨.hbm, 353, rfl⟩
abbrev main_call10_v0 : Ref sig .tc := ⟨.hbm, 354, rfl⟩
abbrev main_call10_v1 : Ref sig .tc := ⟨.hbm, 355, rfl⟩
abbrev main_v286 : Ref sig .tc := ⟨.hbm, 356, rfl⟩
abbrev main_cst_32 : Ref sig .tc := ⟨.hbm, 357, rfl⟩
abbrev main_v287 : Ref sig .tc := ⟨.hbm, 358, rfl⟩
abbrev main_v288 : Ref sig .tc := ⟨.hbm, 359, rfl⟩
abbrev main_v289 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_v293 : Ref sig .tc := ⟨.hbm, 364, rfl⟩
abbrev main_v294 : Ref sig .tc := ⟨.hbm, 365, rfl⟩
abbrev main_c_33 : Ref sig .tc := ⟨.hbm, 366, rfl⟩
abbrev main_v295 : Ref sig .tc := ⟨.hbm, 367, rfl⟩
abbrev main_v296 : Ref sig .tc := ⟨.hbm, 368, rfl⟩
abbrev main_cst_34 : Ref sig .tc := ⟨.hbm, 369, rfl⟩
abbrev main_call11_v0 : Ref sig .tc := ⟨.hbm, 370, rfl⟩
abbrev main_call11_v1 : Ref sig .tc := ⟨.hbm, 371, rfl⟩
abbrev main_v297 : Ref sig .tc := ⟨.hbm, 372, rfl⟩
abbrev main_cst_35 : Ref sig .tc := ⟨.hbm, 373, rfl⟩
abbrev main_v298 : Ref sig .tc := ⟨.hbm, 374, rfl⟩
abbrev main_v299 : Ref sig .tc := ⟨.hbm, 375, rfl⟩
abbrev main_v300 : Ref sig .tc := ⟨.hbm, 376, rfl⟩
abbrev main_v301 : Ref sig .tc := ⟨.hbm, 377, rfl⟩
abbrev main_v302 : Ref sig .tc := ⟨.hbm, 378, rfl⟩
abbrev main_v303 : Ref sig .tc := ⟨.hbm, 379, rfl⟩
abbrev main_v304 : Ref sig .tc := ⟨.hbm, 380, rfl⟩
abbrev main_v305 : Ref sig .tc := ⟨.hbm, 381, rfl⟩
abbrev main_c_36 : Ref sig .tc := ⟨.hbm, 382, rfl⟩
abbrev main_v306 : Ref sig .tc := ⟨.hbm, 383, rfl⟩
abbrev main_v307 : Ref sig .tc := ⟨.hbm, 384, rfl⟩
abbrev main_cst_37 : Ref sig .tc := ⟨.hbm, 385, rfl⟩
abbrev main_call12_v0 : Ref sig .tc := ⟨.hbm, 386, rfl⟩
abbrev main_call12_v1 : Ref sig .tc := ⟨.hbm, 387, rfl⟩
abbrev main_v308 : Ref sig .tc := ⟨.hbm, 388, rfl⟩
abbrev main_cst_38 : Ref sig .tc := ⟨.hbm, 389, rfl⟩
abbrev main_v309 : Ref sig .tc := ⟨.hbm, 390, rfl⟩
abbrev main_v310 : Ref sig .tc := ⟨.hbm, 391, rfl⟩
abbrev main_v311 : Ref sig .tc := ⟨.hbm, 392, rfl⟩
abbrev main_v312 : Ref sig .tc := ⟨.hbm, 393, rfl⟩
abbrev main_v313 : Ref sig .tc := ⟨.hbm, 394, rfl⟩
abbrev main_v314 : Ref sig .tc := ⟨.hbm, 395, rfl⟩
abbrev main_v315 : Ref sig .tc := ⟨.hbm, 396, rfl⟩
abbrev main_v316 : Ref sig .tc := ⟨.hbm, 397, rfl⟩
abbrev main_c_39 : Ref sig .tc := ⟨.hbm, 398, rfl⟩
abbrev main_v317 : Ref sig .tc := ⟨.hbm, 399, rfl⟩
abbrev main_v318 : Ref sig .tc := ⟨.hbm, 400, rfl⟩
abbrev main_cst_40 : Ref sig .tc := ⟨.hbm, 401, rfl⟩
abbrev main_call13_v0 : Ref sig .tc := ⟨.hbm, 402, rfl⟩
abbrev main_call13_v1 : Ref sig .tc := ⟨.hbm, 403, rfl⟩
abbrev main_v319 : Ref sig .tc := ⟨.hbm, 404, rfl⟩
abbrev main_cst_41 : Ref sig .tc := ⟨.hbm, 405, rfl⟩
abbrev main_v320 : Ref sig .tc := ⟨.hbm, 406, rfl⟩
abbrev main_v321 : Ref sig .tc := ⟨.hbm, 407, rfl⟩
abbrev main_v322 : Ref sig .tc := ⟨.hbm, 408, rfl⟩
abbrev main_v323 : Ref sig .tc := ⟨.hbm, 409, rfl⟩
abbrev main_v324 : Ref sig .tc := ⟨.hbm, 410, rfl⟩
abbrev main_v325 : Ref sig .tc := ⟨.hbm, 411, rfl⟩
abbrev main_v326 : Ref sig .tc := ⟨.hbm, 412, rfl⟩
abbrev main_v327 : Ref sig .tc := ⟨.hbm, 413, rfl⟩
abbrev main_v328 : Ref sig .tc := ⟨.hbm, 414, rfl⟩
abbrev main_v329 : Ref sig .tc := ⟨.hbm, 415, rfl⟩
abbrev main_v330 : Ref sig .tc := ⟨.hbm, 416, rfl⟩
abbrev main_c_42 : Ref sig .tc := ⟨.hbm, 417, rfl⟩
abbrev main_call14_v0 : Ref sig .tc := ⟨.hbm, 418, rfl⟩
abbrev main_v331 : Ref sig .tc := ⟨.hbm, 419, rfl⟩
abbrev main_cst_43 : Ref sig .tc := ⟨.hbm, 420, rfl⟩
abbrev main_v332 : Ref sig .tc := ⟨.hbm, 421, rfl⟩
abbrev main_v333 : Ref sig .tc := ⟨.hbm, 422, rfl⟩
abbrev main_v334 : Ref sig .tc := ⟨.hbm, 423, rfl⟩
abbrev main_v335 : Ref sig .tc := ⟨.hbm, 424, rfl⟩
abbrev main_v336 : Ref sig .tc := ⟨.hbm, 425, rfl⟩
abbrev main_v337 : Ref sig .tc := ⟨.hbm, 426, rfl⟩
abbrev main_v338 : Ref sig .tc := ⟨.hbm, 427, rfl⟩
abbrev main_v339 : Ref sig .tc := ⟨.hbm, 428, rfl⟩
abbrev main_v340 : Ref sig .tc := ⟨.hbm, 429, rfl⟩
abbrev main_v341 : Ref sig .tc := ⟨.hbm, 430, rfl⟩
abbrev main_v342 : Ref sig .tc := ⟨.hbm, 431, rfl⟩
abbrev main_v343 : Ref sig .tc := ⟨.hbm, 432, rfl⟩
abbrev main_v344 : Ref sig .tc := ⟨.hbm, 433, rfl⟩
abbrev main_v345 : Ref sig .tc := ⟨.hbm, 434, rfl⟩
abbrev main_v346 : Ref sig .tc := ⟨.hbm, 435, rfl⟩
abbrev main_v347 : Ref sig .tc := ⟨.hbm, 436, rfl⟩
abbrev main_v348 : Ref sig .tc := ⟨.hbm, 437, rfl⟩
abbrev main_v349 : Ref sig .tc := ⟨.hbm, 438, rfl⟩
abbrev main_v350 : Ref sig .tc := ⟨.hbm, 439, rfl⟩
abbrev main_v351 : Ref sig .tc := ⟨.hbm, 440, rfl⟩
abbrev main_v352 : Ref sig .tc := ⟨.hbm, 441, rfl⟩
abbrev main_v353 : Ref sig .tc := ⟨.hbm, 442, rfl⟩
abbrev main_v354 : Ref sig .tc := ⟨.hbm, 443, rfl⟩
abbrev main_v355 : Ref sig .tc := ⟨.hbm, 444, rfl⟩
abbrev main_v356 : Ref sig .tc := ⟨.hbm, 445, rfl⟩
abbrev main_v357 : Ref sig .tc := ⟨.hbm, 446, rfl⟩
abbrev main_v358 : Ref sig .tc := ⟨.hbm, 447, rfl⟩
abbrev main_v359 : Ref sig .tc := ⟨.hbm, 448, rfl⟩
abbrev main_v360 : Ref sig .tc := ⟨.hbm, 449, rfl⟩
abbrev main_v361 : Ref sig .tc := ⟨.hbm, 450, rfl⟩
abbrev main_v362 : Ref sig .tc := ⟨.hbm, 451, rfl⟩
abbrev main_v363 : Ref sig .tc := ⟨.hbm, 452, rfl⟩
abbrev main_v364 : Ref sig .tc := ⟨.hbm, 453, rfl⟩
abbrev main_v365 : Ref sig .tc := ⟨.hbm, 454, rfl⟩
abbrev main_v366 : Ref sig .tc := ⟨.hbm, 455, rfl⟩
abbrev main_v367 : Ref sig .tc := ⟨.hbm, 456, rfl⟩
abbrev main_v368 : Ref sig .tc := ⟨.hbm, 457, rfl⟩
abbrev main_v369 : Ref sig .tc := ⟨.hbm, 458, rfl⟩
abbrev main_v370 : Ref sig .tc := ⟨.hbm, 459, rfl⟩
abbrev main_v371 : Ref sig .tc := ⟨.hbm, 460, rfl⟩
abbrev main_v372 : Ref sig .tc := ⟨.hbm, 461, rfl⟩
abbrev main_v373 : Ref sig .tc := ⟨.hbm, 462, rfl⟩
abbrev main_v374 : Ref sig .tc := ⟨.hbm, 463, rfl⟩
abbrev main_v375 : Ref sig .tc := ⟨.hbm, 464, rfl⟩
abbrev main_v376 : Ref sig .tc := ⟨.hbm, 465, rfl⟩
abbrev main_v377 : Ref sig .tc := ⟨.hbm, 466, rfl⟩
abbrev main_v378 : Ref sig .tc := ⟨.hbm, 467, rfl⟩
abbrev main_v379 : Ref sig .tc := ⟨.hbm, 468, rfl⟩
abbrev main_v380 : Ref sig .tc := ⟨.hbm, 469, rfl⟩
abbrev main_v381 : Ref sig .tc := ⟨.hbm, 470, rfl⟩
abbrev main_v382 : Ref sig .tc := ⟨.hbm, 471, rfl⟩
abbrev main_v383 : Ref sig .tc := ⟨.hbm, 472, rfl⟩
abbrev main_v384 : Ref sig .tc := ⟨.hbm, 473, rfl⟩
abbrev main_v385 : Ref sig .tc := ⟨.hbm, 474, rfl⟩
abbrev main_v386 : Ref sig .tc := ⟨.hbm, 475, rfl⟩
abbrev main_v387 : Ref sig .tc := ⟨.hbm, 476, rfl⟩
abbrev main_v388 : Ref sig .tc := ⟨.hbm, 477, rfl⟩
abbrev main_v389 : Ref sig .tc := ⟨.hbm, 478, rfl⟩
abbrev main_v390 : Ref sig .tc := ⟨.hbm, 479, rfl⟩
abbrev main_call15_cst : Ref sig .tc := ⟨.hbm, 480, rfl⟩
abbrev main_call15_v0 : Ref sig .tc := ⟨.hbm, 481, rfl⟩
abbrev main_v391 : Ref sig .tc := ⟨.hbm, 482, rfl⟩
abbrev main_v392 : Ref sig .tc := ⟨.hbm, 483, rfl⟩
abbrev main_cst_44 : Ref sig .tc := ⟨.hbm, 484, rfl⟩
abbrev main_v393 : Ref sig .tc := ⟨.hbm, 485, rfl⟩
abbrev main_v394 : Ref sig .tc := ⟨.hbm, 486, rfl⟩
abbrev main_v395 : Ref sig .tc := ⟨.hbm, 487, rfl⟩
abbrev main_v396 : Ref sig .tc := ⟨.hbm, 488, rfl⟩
abbrev main_v397 : Ref sig .tc := ⟨.hbm, 489, rfl⟩
abbrev main_v398 : Ref sig .tc := ⟨.hbm, 490, rfl⟩
abbrev main_v399 : Ref sig .tc := ⟨.hbm, 491, rfl⟩
abbrev main_call16_cst : Ref sig .tc := ⟨.hbm, 492, rfl⟩
abbrev main_call16_v0 : Ref sig .tc := ⟨.hbm, 493, rfl⟩
abbrev main_v400 : Ref sig .tc := ⟨.hbm, 494, rfl⟩
abbrev main_v401 : Ref sig .tc := ⟨.hbm, 495, rfl⟩
abbrev main_v402 : Ref sig .tc := ⟨.hbm, 496, rfl⟩
abbrev main_v403 : Ref sig .tc := ⟨.hbm, 497, rfl⟩
abbrev main_v404 : Ref sig .tc := ⟨.hbm, 498, rfl⟩
abbrev main_v405 : Ref sig .tc := ⟨.hbm, 499, rfl⟩

abbrev nD : Nat := 1
abbrev τ : Topo := Topo.v7x

variable {F : FTy → Type} [FloatOps F]
-- ==== Proof.KernelRun.lean ====
/- The kernel's run: it ends with every array of the host's program at the value of the last boundary. -/
module

public import proofs.«01_k».proof.Proof.Gen.KernelIdeal.Frame

@[expose] public section

set_option maxRecDepth 16384

noncomputable section

namespace Cert.Moe
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No argument is scoped. -/
theorem arg_unscoped : ∀ a ∈ argRefs, ¬ (Proc.devRef .tc a : DevRef τ sig).isScoped := by decide

set_option backward.isDefEq.respectTransparency.types false in
/-- Every run ends with the three results at the values of the last boundary, and the arguments as they were. -/
theorem kernel_run : θ_run defs (onTc (τ := τ) (main (F := F))) ⟨m, fun _ => 0, ρ⟩ (fun r => ∀ c : Dev nD,
      r.2.mem ((c.tc : Thread nD τ).loc main_v66) = W32 m ρ c (Proc.devRef .tc main_v66)
      ∧ r.2.mem ((c.tc : Thread nD τ).loc main_v31) = W32 m ρ c (Proc.devRef .tc main_v31)
      ∧ r.2.mem ((c.tc : Thread nD τ).loc main_v40) = W32 m ρ c (Proc.devRef .tc main_v40)
      ∧ (∀ a ∈ argRefs, r.2.mem ((c.tc : Thread nD τ).loc a) = m ((c.tc : Thread nD τ).loc a))) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := by
      refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_,
        ?_, fun c => ?_⟩
      on_goal 33 =>
        dsimp only [Pipeline.Seg.post, hseg, Pipeline.HostSeg.ofOps]
        iintro ⟨Hh, Hp, HO⟩
        isplitl [Hh Hp]
        · isplitl [Hh]; · iexact Hh
          iexact Hp
        iexact HO
      all_goals exact fun _ => .rfl)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W32 m ρ c b)
    (hfin := fun c s' => by
      iintro ⟨⟨Hh, -⟩, HSI⟩
      unfold StableHlo.held
      imodintro
      iapply (pointsTo_read_all (Pipeline.ucRefs τ sig) (fun b => (((c : Thread nD τ)).1, b)) (W32 m ρ c) s')
      isplitl [Hh] <;> iassumption)
    (hQ := fun s h hz c =>
      ⟨h c _ (mem_uc main_v66 (by decide)), h c _ (mem_uc main_v31 (by decide)), h c _ (mem_uc main_v40 (by decide)), fun a ha =>
        (h c _ (mem_uc a (arg_unscoped a ha))).trans (W32_args m ρ c a ha)⟩)

end Cert.Moe
-- ==== Proof.Gate.lean ====
/- The gate of one image: the softmax of its four logits, the two greatest kept and scaled to sum to one. -/
module

public import Idealize.ShloMosaic.Lib.Pipeline.ValueKit
public import Idealize.ShloMosaic.Lib.SortPrefix
public import Idealize.ShloMosaic.Lib.SortFacts

@[expose] public section

set_option maxRecDepth 16384

noncomputable section

open Idealize.ShloMosaic

namespace Cert.Moe

/-- The greatest of the four logits. -/
def peak (l : Fin 4 → EReal) : EReal := max (max (l 0) (l 1)) (max (l 2) (l 3))

/-- The softmax of the four logits. -/
def soft (l : Fin 4 → EReal) (e : Fin 4) : EReal :=
  Ideal.div (Ideal.exp (l e - peak l)) (∑ k, Ideal.exp (l k - peak l))

/-- `j` comes before `e`: its weight is greater, or equal with a smaller index. -/
def Beats (w : Fin 4 → EReal) (j e : Fin 4) : Prop := w e < w j ∨ (w j = w e ∧ j < e)

open Classical in
/-- How many come before `e`. -/
def rank (w : Fin 4 → EReal) (e : Fin 4) : ℕ := ∑ j, if Beats w j e then 1 else 0

open Classical in
/-- The weight of `e`, or zero when two or more come before it. -/
def keep (w : Fin 4 → EReal) (e : Fin 4) : EReal := if rank w e < 2 then w e else 0

/-- The gate's weight for `e`: what is kept of the softmax, over the sum of all that is kept. -/
def gateW (l : Fin 4 → EReal) (e : Fin 4) : EReal :=
  Ideal.div (keep (soft l) e) (∑ k, keep (soft l) k)

/-- The bit pattern of the float two is two. -/
theorem two_bits : Ideal.ofBits .f32 0x40000000#32 = 2 := by
  rw [show (2 : EReal) = ((2 : ℝ) : EReal) by norm_cast]
  simp [Ideal.ofBits, Ideal.ieee, -EReal.coe_mul]; norm_num

/-- The bit pattern of the float minus infinity is the least extended real. -/
theorem bot_bits : Ideal.ofBits .f32 0xFF800000#32 = ⊥ := by
  simp [Ideal.ofBits, Ideal.ieee]

/-- A one-or-zero picked by "`p`, or `q` and true". -/
theorem pick_or (p q : Prop) [Decidable p] [Decidable q] :
    Scalar.select (IntOp.ori (BitVec.ofBool (decide p)) (IntOp.andi (BitVec.ofBool (decide q)) 1#1)) (1 : EReal) 0
      = if p ∨ q then 1 else 0 := by
  by_cases p <;> by_cases q <;> simp_all [Scalar.select, IntOp.ori, IntOp.andi]

/-- A one-or-zero picked by "`p`, or `q` and false". -/
theorem pick_left (p q : Prop) [Decidable p] [Decidable q] :
    Scalar.select (IntOp.ori (BitVec.ofBool (decide p)) (IntOp.andi (BitVec.ofBool (decide q)) 0#1)) (1 : EReal) 0
      = if p then 1 else 0 := by
  by_cases p <;> by_cases q <;> simp_all [Scalar.select, IntOp.ori, IntOp.andi]

/-- Three one-or-zeros add up to less than two as extended reals when they do as numbers. -/
theorem count_lt (p q r : Prop) [Decidable p] [Decidable q] [Decidable r] :
    ((if p then (1 : EReal) else 0) + (if q then 1 else 0) + (if r then 1 else 0) < 2)
      ↔ ((if p then 1 else 0) + (if q then 1 else 0) + (if r then 1 else 0) < 2) := by
  have h2 : (1 : EReal) + 1 = 2 := by norm_num
  have h3 : ¬ ((2 : EReal) + 1 < 2) := by
    rw [show (2 : EReal) + 1 = ((3 : ℝ) : EReal) by norm_cast, show (2 : EReal) = ((2 : ℝ) : EReal) by norm_cast]
    simp; norm_num
  by_cases p <;> by_cases q <;> by_cases r <;> simp_all

end Cert.Moe
-- ==== Proof.Spec.lean ====
/- The network on one image: a strided convolution, twice a gated layer of four convolution experts followed by a linear
   map, and a tail of a convolution, a two-by-two maximum and two linear maps. A state is 4096 numbers: channel `d / 256`,
   row `d / 16 % 16`, column `d % 16`. -/
module

public import proofs.«01_k».proof.Proof.Gate

@[expose] public section

set_option maxRecDepth 16384

noncomputable section

open Idealize.ShloMosaic

namespace Cert.Moe

/-- A square image with a border of zeros one wide, read at row `Y`, column `Z` of the bordered image. -/
def padded {H : ℕ} (f : Fin H → Fin H → EReal) (Y Z : ℕ) : EReal :=
  if h : (1 ≤ Y ∧ Y ≤ H) ∧ (1 ≤ Z ∧ Z ≤ H) then f ⟨Y - 1, by omega⟩ ⟨Z - 1, by omega⟩ else 0

/-- The three-by-three convolution of stride `s` and padding one, at row `y`, column `x`: over the nine taps and the
    channels. -/
def conv {C H : ℕ} (s : ℕ) (w : Fin C → Fin 3 → Fin 3 → EReal) (X : Fin C → Fin H → Fin H → EReal) (y x : ℕ) : EReal :=
  ∑ t : Fin 9, ∑ i : Fin C,
    w i ⟨t.val / 3, by omega⟩ ⟨t.val % 3, by omega⟩ * padded (X i) (s * y + t.val / 3) (s * x + t.val % 3)

/-- A state's channels. -/
def plane (f : Fin 4096 → EReal) (i : Fin 16) (y x : Fin 16) : EReal := f ⟨i.val * 256 + y.val * 16 + x.val, by omega⟩

/-- The parameters, as functions of their indices. -/
structure Params where
  W1 : Fin 16 → Fin 3 → Fin 3 → Fin 3 → EReal
  b1 : Fin 16 → EReal
  We : Fin 4 → Fin 16 → Fin 16 → Fin 3 → Fin 3 → EReal
  be : Fin 4 → Fin 16 → EReal
  Wl : Fin 8 → Fin 16 → Fin 3 → Fin 3 → EReal
  bl : Fin 8 → EReal
  A : Fin 16 → Fin 128 → EReal
  a : Fin 16 → EReal
  B : Fin 10 → Fin 16 → EReal
  d : Fin 10 → EReal
  G : Fin 4 → Fin 4096 → EReal
  g : Fin 4 → EReal
  T : Fin 4096 → Fin 4096 → EReal
  t : Fin 4096 → EReal

variable (P : Params)

/-- The first layer of image `X`, as a state. -/
def stem (X : Fin 3 → Fin 32 → Fin 32 → EReal) (d : Fin 4096) : EReal :=
  max (conv 2 (P.W1 ⟨d.val / 256, by omega⟩) X (d.val / 16 % 16) (d.val % 16) + P.b1 ⟨d.val / 256, by omega⟩) 0

/-- The gate's logit of expert `e`. -/
def logit (f : Fin 4096 → EReal) (e : Fin 4) : EReal := (∑ d, P.G e d * f d) + P.g e

/-- Expert `e`'s output. -/
def expert (f : Fin 4096 → EReal) (e : Fin 4) (d : Fin 4096) : EReal :=
  max (conv 1 (P.We e ⟨d.val / 256, by omega⟩) (plane f) (d.val / 16 % 16) (d.val % 16) + P.be e ⟨d.val / 256, by omega⟩) 0

/-- The experts' outputs, each times its gate weight. -/
def mix (f : Fin 4096 → EReal) (d : Fin 4096) : EReal := ∑ e, expert P f e d * gateW (logit P f) e

/-- One gated layer: the mixture through the linear map. -/
def route (f : Fin 4096 → EReal) (k : Fin 4096) : EReal := (∑ d, P.T k d * mix P f d) + P.t k

/-- The last convolution. -/
def lastConv (f : Fin 4096 → EReal) (o : Fin 8) (y x : ℕ) : EReal := max (conv 2 (P.Wl o) (plane f) y x + P.bl o) 0

/-- The maximum over a two-by-two cell. -/
def pool (f : Fin 4096 → EReal) (o : Fin 8) (y x : ℕ) : EReal :=
  Finset.univ.fold max (⊥ : EReal) fun s : Fin 4 => lastConv P f o (2 * y + s.val / 2) (2 * x + s.val % 2)

/-- The first linear map of the tail. -/
def hidden (f : Fin 4096 → EReal) (r : Fin 16) : EReal :=
  max ((∑ k : Fin 128, P.A r k * pool P f ⟨k.val / 16, by omega⟩ (k.val / 4 % 4) (k.val % 4)) + P.a r) 0

/-- The network's output from the last state. -/
def scores (f : Fin 4096 → EReal) (r : Fin 10) : EReal := (∑ k : Fin 16, P.B r k * hidden P f k) + P.d r

end Cert.Moe
-- ==== Proof.Params.lean ====
/- The parameters and the images, read from the argument arrays. -/
module

public import proofs.«01_k».proof.Proof.Spec
public import Idealize.ShloMosaic.Lib.Pipeline.ValueKit

@[expose] public section

set_option maxRecDepth 16384

noncomputable section

open Idealize.ShloMosaic

namespace Cert.Moe

/-- The parameters that the argument arrays hold. -/
def params (x1 : FVec Ideal ⟨4, ![16, 3, 3, 3]⟩ .f32) (x2 : FVec Ideal ⟨1, ![16]⟩ .f32) (x3 : FVec Ideal ⟨5, ![4, 16, 16, 3, 3]⟩ .f32)
    (x4 : FVec Ideal ⟨2, ![4, 16]⟩ .f32) (x5 : FVec Ideal ⟨4, ![8, 16, 3, 3]⟩ .f32) (x6 : FVec Ideal ⟨1, ![8]⟩ .f32)
    (x7 : FVec Ideal ⟨2, ![16, 128]⟩ .f32) (x8 : FVec Ideal ⟨1, ![16]⟩ .f32) (x9 : FVec Ideal ⟨2, ![10, 16]⟩ .f32)
    (x10 : FVec Ideal ⟨1, ![10]⟩ .f32) (x11 : FVec Ideal ⟨2, ![4, 4096]⟩ .f32) (x12 : FVec Ideal ⟨1, ![4]⟩ .f32)
    (x13 : FVec Ideal ⟨2, ![4096, 4096]⟩ .f32) (x14 : FVec Ideal ⟨1, ![4096]⟩ .f32) : Params where
  W1 o i y x := x1 (ix4 o i y x)
  b1 o := x2 (ix1 o)
  We e o i y x := x3 (ix5 e o i y x)
  be e o := x4 (ix2 e o)
  Wl o i y x := x5 (ix4 o i y x)
  bl o := x6 (ix1 o)
  A r k := x7 (ix2 r k)
  a r := x8 (ix1 r)
  B r k := x9 (ix2 r k)
  d r := x10 (ix1 r)
  G e k := x11 (ix2 e k)
  g e := x12 (ix1 e)
  T k j := x13 (ix2 k j)
  t k := x14 (ix1 k)

/-- The images, one by one. -/
def images (x0 : FVec Ideal ⟨4, ![256, 3, 32, 32]⟩ .f32) (b : Fin 256) (i : Fin 3) (y x : Fin 32) : EReal := x0 (ix4 b i y x)

/-- The state of image `b` after the first layer. -/
def state0 (P : Params) (X : Fin 256 → Fin 3 → Fin 32 → Fin 32 → EReal) (b : Fin 256) : Fin 4096 → EReal := stem P (X b)

/-- The state after one gated layer. -/
def state1 (P : Params) (X : Fin 256 → Fin 3 → Fin 32 → Fin 32 → EReal) (b : Fin 256) : Fin 4096 → EReal := route P (state0 P X b)

/-- The state after both gated layers. -/
def state2 (P : Params) (X : Fin 256 → Fin 3 → Fin 32 → Fin 32 → EReal) (b : Fin 256) : Fin 4096 → EReal := route P (state1 P X b)

end Cert.Moe
-- ==== Proof.RegionConv.lean ====
/- What the first convolution's launch leaves in its array. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Moe

open Cert.KernelIdeal Cert.KernelIdeal.Gen

variable (V : (c : Dev nD) → (b : Ref sig .tc) → Buf (Elt Ideal) ((c : Thread nD τ).loc b))

/-- A matrix product with a bias per row, negative entries replaced by zero. -/
def convCols (A : FVec Ideal S16x27 .f32) (B : FVec Ideal S27x65536 .f32) (b : FVec Ideal S16x1 .f32) :
    FVec Ideal S16x65536 .f32 :=
  fun j => max ((∑ k : Fin 27, A (ix2 (j 0) k) * B (ix2 k (j 1))) + b (ix2 (j 0) 0)) 0

/-- Where each point's blocks lie: the columns are cut in eight, everything else is whole. -/
theorem idx0 : ∀ t : Fin cfg0.N, win0_0.index t = ![0, 0] ∧ win0_1.index t = ![0, t.val] ∧ win0_2.index t = ![0, 0]
    ∧ win0_3.index t = ![0, t.val] :=
  (by decide +kernel : ∀ t : Fin grid0.N, _)

/-- One block of the first convolution. -/
theorem point0 (c : Dev nD) (t : Fin cfg0.N) (y) :
    k0_pay1 (F := Ideal) (iblk0 V c 0 t) (iblk0 V c 1 t) (iblk0 V c 2 t) y
      = convCols (V c main_v1) (V c main_v25) (V c main_v26) (((cfg0.win 3).blk t).view.emb y) := by
  pointwise [k0_pay1, convCols]
  blk_point [iblk0, idx0 t]

/-- The array the first convolution's launch leaves. -/
theorem final0 (c : Dev nD) : (dat0 V c).arrAt 3 cfg0.N
    = convCols (V c main_v1) (V c main_v25) (V c main_v26) := by
  refine (dat0 V c).arrAt_eq_of_covers 3 _ (by decide +kernel) fun t _ y => ?_
  blk_simp
  rw [after0_3]; frame_out
  exact point0 V c t y

end Cert.Moe

end
-- ==== Proof.RegionDense.lean ====
/- What the two launches of the dense layer (a 4096 by 4096 matrix times the state, plus a bias) leave in their arrays. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Moe
open Cert.KernelIdeal Cert.KernelIdeal.Gen
variable (V : (c : Dev nD) → (b : Ref sig .tc) → Buf (Elt Ideal) ((c : Thread nD τ).loc b))

/-- The dense layer on columns: row `k`, column `b` is the dot of the matrix's row `k` with the state's column `b`,
    plus the bias of row `k`. -/
def denseCols (A : FVec Ideal S4096x4096 .f32) (X : FVec Ideal S4096x256 .f32) (b : FVec Ideal S4096x1 .f32) :
    FVec Ideal S4096x256 .f32 :=
  fun j => (∑ k : Fin 4096, A (ix2 (j 0) k) * X (ix2 k (j 1))) + b (ix2 (j 0) 0)

/-- Point `t` of the first dense launch: the matrix's, the bias's and the result's block is the `t`-th of 512 rows, the
    state is taken whole. -/
theorem idx3 : ∀ t : Fin cfg3.N, win3_0.index t = ![t.val, 0] ∧ win3_1.index t = ![0, 0] ∧ win3_2.index t = ![t.val, 0]
    ∧ win3_3.index t = ![t.val, 0] := (by decide +kernel : ∀ t : Fin grid3.N, _)

/-- What one block of the first dense launch computes is `denseCols` at the block's place. -/
theorem point3 (c : Dev nD) (t : Fin cfg3.N) (y) :
    k3_pay1 (F := Ideal) (iblk3 V c 0 t) (iblk3 V c 1 t) (iblk3 V c 2 t) y
      = denseCols (V c main_arg13) (V c main_v36) (V c main_v12) (((cfg3.win 3).blk t).view.emb y) := by
  pointwise [k3_pay1, denseCols]
  blk_point [iblk3, idx3 t]

/-- The first dense launch leaves `denseCols` of its inputs. -/
theorem final3 (c : Dev nD) : (dat3 V c).arrAt 3 cfg3.N = denseCols (V c main_arg13) (V c main_v36) (V c main_v12) := by
  refine (dat3 V c).arrAt_eq_of_covers 3 _ (by decide +kernel) fun t _ y => ?_
  blk_simp
  rw [after3_3]; frame_out
  exact point3 V c t y

/-- Point `t` of the second dense launch: as in the first. -/
theorem idx6 : ∀ t : Fin cfg6.N, win6_0.index t = ![t.val, 0] ∧ win6_1.index t = ![0, 0] ∧ win6_2.index t = ![t.val, 0]
    ∧ win6_3.index t = ![t.val, 0] := (by decide +kernel : ∀ t : Fin grid6.N, _)

/-- What one block of the second dense launch computes is `denseCols` at the block's place. -/
theorem point6 (c : Dev nD) (t : Fin cfg6.N) (y) :
    k6_pay1 (F := Ideal) (iblk6 V c 0 t) (iblk6 V c 1 t) (iblk6 V c 2 t) y
      = denseCols (V c main_arg13) (V c main_v45) (V c main_v12) (((cfg6.win 3).blk t).view.emb y) := by
  pointwise [k6_pay1, denseCols]
  blk_point [iblk6, idx6 t]

/-- The second dense launch leaves `denseCols` of its inputs. -/
theorem final6 (c : Dev nD) : (dat6 V c).arrAt 3 cfg6.N = denseCols (V c main_arg13) (V c main_v45) (V c main_v12) := by
  refine (dat6 V c).arrAt_eq_of_covers 3 _ (by decide +kernel) fun t _ y => ?_
  blk_simp
  rw [after6_3]; frame_out
  exact point6 V c t y

end Cert.Moe
-- ==== Proof.RegionGate.lean ====
/- What the two gate launches leave in their arrays. -/
module

public import proofs.«01_k».proof.Proof.Gen.KernelIdeal.Frame
public import Idealize.ShloMosaic.Lib.Pipeline.ValueKit
public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.Moe
open Cert.KernelIdeal Cert.KernelIdeal.Gen

/-- Row `e`, column `b` of the gate's eight rows of logits. -/
def gateLin (X : FVec Ideal S4096x256 .f32) (G : FVec Ideal S8x4096 .f32) (g : FVec Ideal S8x1 .f32)
    (e : Fin 8) (b : Fin 256) : EReal :=
  (∑ k : Fin 4096, G (ix2 e k) * X (ix2 k b)) + g (ix2 e 0)

/-- The four logits of image `b`: the first four rows. -/
def gateLogit (X : FVec Ideal S4096x256 .f32) (G : FVec Ideal S8x4096 .f32) (g : FVec Ideal S8x1 .f32)
    (b : Fin 256) (e : Fin 4) : EReal := gateLin X G g ⟨e.val, by omega⟩ b

/-- The gate's array: rows 0 to 3 the weights, rows 4 to 7 the logits. -/
def gateCols (X : FVec Ideal S4096x256 .f32) (G : FVec Ideal S8x4096 .f32) (g : FVec Ideal S8x1 .f32) :
    FVec Ideal S8x256 .f32 :=
  fun j => if h : (j 0).val < 4 then gateW (gateLogit X G g (j 1)) ⟨(j 0).val, h⟩
    else gateLogit X G g (j 1) ⟨(j 0).val - 4, by have : (j 0).val < 8 := (j 0).isLt; omega⟩

section block
variable (X : FVec Ideal S4096x256 .f32) (G : FVec Ideal S8x4096 .f32) (g : FVec Ideal S8x1 .f32) (b : Fin 256)

/-- The four rows cut out of the logits are the logits. -/
theorem gate_lin0 : k1_pay3 (F := Ideal) G X g (ix2 0 b) = gateLogit X G g b 0 := by
  pointwise [k1_pay2, k1_pay3, gateLogit, gateLin]
theorem gate_lin1 : k1_pay4 (F := Ideal) G X g (ix2 0 b) = gateLogit X G g b 1 := by
  pointwise [k1_pay2, k1_pay4, gateLogit, gateLin]
theorem gate_lin2 : k1_pay5 (F := Ideal) G X g (ix2 0 b) = gateLogit X G g b 2 := by
  pointwise [k1_pay2, k1_pay5, gateLogit, gateLin]
theorem gate_lin3 : k1_pay6 (F := Ideal) G X g (ix2 0 b) = gateLogit X G g b 3 := by
  pointwise [k1_pay2, k1_pay6, gateLogit, gateLin]

/-- The four softmax rows. -/
theorem gate_soft :
    k1_pay13 (F := Ideal) G X g (ix2 0 b) = soft (gateLogit X G g b) 0
    ∧ k1_pay14 (F := Ideal) G X g (ix2 0 b) = soft (gateLogit X G g b) 1
    ∧ k1_pay15 (F := Ideal) G X g (ix2 0 b) = soft (gateLogit X G g b) 2
    ∧ k1_pay16 (F := Ideal) G X g (ix2 0 b) = soft (gateLogit X G g b) 3 := by
  refine ⟨?_, ?_, ?_, ?_⟩ <;>
  · pointwise [k1_pay7, k1_pay8, k1_pay9, k1_pay10, k1_pay11, k1_pay12, k1_pay13, k1_pay14, k1_pay15, k1_pay16,
      gate_lin0, gate_lin1, gate_lin2, gate_lin3, soft, peak, Fin.sum_univ_four]

end block

section keep
variable (w0 w1 w2 w3 : FVec Ideal S1x256 .f32) (w : Fin 4 → EReal) (b : Fin 256)
  (h0 : w0 (ix2 0 b) = w 0) (h1 : w1 (ix2 0 b) = w 1) (h2 : w2 (ix2 0 b) = w 2) (h3 : w3 (ix2 0 b) = w 3)
include h0 h1 h2 h3

/-- The second row's test says whether fewer than two come before it. -/
theorem gate_sel1 : k1_pay20 (F := Ideal) w0 w1 w2 w3 (ix2 0 b) = BitVec.ofBool (decide (rank w 1 < 2)) := by
  pointwise [k1_pay20, h0, h1, h2, h3, pick_or, pick_left, two_bits, count_lt]
  simp only [rank, Beats, Fin.sum_univ_four]
  simp

/-- The third row's test. -/
theorem gate_sel2 : k1_pay21 (F := Ideal) w0 w1 w2 w3 (ix2 0 b) = BitVec.ofBool (decide (rank w 2 < 2)) := by
  pointwise [k1_pay21, h0, h1, h2, h3, pick_or, pick_left, two_bits, count_lt]
  simp only [rank, Beats, Fin.sum_univ_four]
  simp

/-- The fourth row's test. -/
theorem gate_sel3 : k1_pay25 (F := Ideal) w2 w3 (k1_pay22 w0 w3) (k1_pay23 w1 w3) (k1_pay24 w1 w3) (ix2 0 b)
    = BitVec.ofBool (decide (rank w 3 < 2)) := by
  pointwise [k1_pay25, k1_pay22, k1_pay23, k1_pay24, h0, h1, h2, h3, pick_or, pick_left, two_bits, count_lt]
  simp only [rank, Beats, Fin.sum_univ_four]
  simp

end keep

section block
variable (X : FVec Ideal S4096x256 .f32) (G : FVec Ideal S8x4096 .f32) (g : FVec Ideal S8x1 .f32) (b : Fin 256)

/-- The first row's test. -/
theorem gate_sel0 : k1_pay19 (F := Ideal) (k1_pay13 (F := Ideal) G X g) (k1_pay16 (F := Ideal) G X g)
      (k1_pay17 (F := Ideal) G X g) (k1_pay18 (F := Ideal) G X g)
      (Scalar.ofBits .f32 0x3F800000#32) (Scalar.ofBits .f32 0x00000000#32) (ix2 0 b)
    = BitVec.ofBool (decide (rank (soft (gateLogit X G g b)) 0 < 2)) := by
  obtain ⟨h0, h1, h2, h3⟩ := gate_soft X G g b
  pointwise [k1_pay17, k1_pay18, k1_pay19, h0, h1, h2, h3, pick_or, pick_left, two_bits, count_lt]
  simp only [rank, Beats, Fin.sum_univ_four]
  simp

/-- Everything the gate's body stores, from its three loaded arrays. -/
def gateStored : FVec Ideal S8x256 .f32 :=
  let w0 := k1_pay13 (F := Ideal) G X g
  let w1 := k1_pay14 (F := Ideal) G X g
  let w2 := k1_pay15 (F := Ideal) G X g
  let w3 := k1_pay16 (F := Ideal) G X g
  let s0 := k1_pay19 w0 w3 (k1_pay17 (F := Ideal) G X g) (k1_pay18 (F := Ideal) G X g)
    (Scalar.ofBits .f32 0x3F800000#32) (Scalar.ofBits .f32 0x00000000#32)
  let s1 := k1_pay20 w0 w1 w2 w3
  let s2 := k1_pay21 w0 w1 w2 w3
  let a := k1_pay22 w0 w3
  let p := k1_pay23 w1 w3
  let q := k1_pay24 w1 w3
  k1_pay1 (k1_pay3 (F := Ideal) G X g) (k1_pay4 (F := Ideal) G X g) (k1_pay5 (F := Ideal) G X g)
    (k1_pay6 (F := Ideal) G X g) w3 (k1_pay25 w2 w3 a p q) (k1_pay26 w0 w1 w2 w3 s0 s1 s2 a p q)
    (k1_pay27 w0 w1 w2 w3 s0 s1 s2 a p q) (k1_pay28 w0 w1 w2 w3 s0 s1 s2 a p q)
    (k1_pay29 w0 w1 w2 w3 s0 s1 s2 a p q) (k1_pay30 (F := Ideal))

/-- A weight selected by its test is the weight kept. -/
theorem select_keep (w : Fin 4 → EReal) (e : Fin 4) :
    Scalar.select (BitVec.ofBool (decide (rank w e < 2))) (w e) 0 = keep w e := by
  by_cases h : rank w e < 2 <;> simp [keep, h, Scalar.select]

/-- The sum of what is kept, as the body adds it up. -/
theorem gate_sum :
    k1_pay26 (F := Ideal) (k1_pay13 (F := Ideal) G X g) (k1_pay14 (F := Ideal) G X g) (k1_pay15 (F := Ideal) G X g)
      (k1_pay16 (F := Ideal) G X g)
      (k1_pay19 (k1_pay13 (F := Ideal) G X g) (k1_pay16 (F := Ideal) G X g) (k1_pay17 (F := Ideal) G X g)
        (k1_pay18 (F := Ideal) G X g) (Scalar.ofBits .f32 0x3F800000#32) (Scalar.ofBits .f32 0x00000000#32))
      (k1_pay20 (k1_pay13 (F := Ideal) G X g) (k1_pay14 (F := Ideal) G X g) (k1_pay15 (F := Ideal) G X g) (k1_pay16 (F := Ideal) G X g))
      (k1_pay21 (k1_pay13 (F := Ideal) G X g) (k1_pay14 (F := Ideal) G X g) (k1_pay15 (F := Ideal) G X g) (k1_pay16 (F := Ideal) G X g))
      (k1_pay22 (k1_pay13 (F := Ideal) G X g) (k1_pay16 (F := Ideal) G X g))
      (k1_pay23 (k1_pay14 (F := Ideal) G X g) (k1_pay16 (F := Ideal) G X g))
      (k1_pay24 (k1_pay14 (F := Ideal) G X g) (k1_pay16 (F := Ideal) G X g)) (ix2 0 b)
      = ∑ k, keep (soft (gateLogit X G g b)) k := by
  obtain ⟨h0, h1, h2, h3⟩ := gate_soft X G g b
  have t1 := gate_sel1 _ _ _ _ _ b h0 h1 h2 h3
  have t2 := gate_sel2 _ _ _ _ _ b h0 h1 h2 h3
  have t3 := gate_sel3 _ _ _ _ _ b h0 h1 h2 h3
  have t0 := gate_sel0 X G g b
  pointwise at t0
  pointwise [k1_pay26, t0, t1, t2, t3, h0, h1, h2, h3, select_keep, Fin.sum_univ_four]

set_option maxHeartbeats 1000000 in
/-- What the gate's body stores is `gateCols`, row by row. -/
theorem gate_block (r : Fin 8) : gateStored X G g (ix2 r b) = gateCols X G g (ix2 r b) := by
  obtain ⟨h0, h1, h2, h3⟩ := gate_soft X G g b
  have t1 := gate_sel1 _ _ _ _ _ b h0 h1 h2 h3
  have t2 := gate_sel2 _ _ _ _ _ b h0 h1 h2 h3
  have t3 := gate_sel3 _ _ _ _ _ b h0 h1 h2 h3
  have t0 := gate_sel0 X G g b
  have ts := gate_sum X G g b
  pointwise at t0 ts
  pointwise [gateStored, gateCols, k1_pay1, k1_pay27, k1_pay28, k1_pay29, k1_pay30, t0, t1, t2, t3, ts,
    h0, h1, h2, h3, gate_lin0, gate_lin1, gate_lin2, gate_lin3, select_keep, gateW]
  fin_vals r with hr
  all_goals simp only [hr, Nat.reduceSub, Nat.reduceLT, ↓reduceDIte]
  all_goals simp only [Fin.zero_eta, Fin.mk_one, Fin.reduceFinMk, t0, t1, t2, t3, ts, h0, h1, h2, h3, gate_lin0,
    gate_lin1, gate_lin2, gate_lin3, select_keep]

end block

variable (V : (c : Dev nD) → (b : Ref sig .tc) → Buf (Elt Ideal) ((c : Thread nD τ).loc b))

/-- The first gate launch has one point; every block is its whole array. -/
theorem idx1 : win1_0.index t1_0 = ![0, 0] ∧ win1_1.index t1_0 = ![0, 0] ∧ win1_2.index t1_0 = ![0, 0]
    ∧ win1_3.index t1_0 = ![0, 0] := by decide +kernel

/-- The first gate launch leaves `gateCols` of its inputs. -/
theorem final1 (c : Dev nD) : (dat1 V c).arrAt 3 cfg1.N = gateCols (V c main_v28) (V c main_v6) (V c main_v8) := by
  have e0 : iblk1 V c 0 t1_0 = V c main_v28 := by blk_ext! [iblk1, idx1]
  have e1 : iblk1 V c 1 t1_0 = V c main_v6 := by blk_ext! [iblk1, idx1]
  have e2 : iblk1 V c 2 t1_0 = V c main_v8 := by blk_ext! [iblk1, idx1]
  refine (dat1 V c).arrAt_eq_of_after_last 3 t1_0 (by decide +kernel) _ fun j => ?_
  blk_simp
  rw [after1_3]; unfold_out out1_3; frame_out
  rw [e0, e1, e2, eq_ix2 j]
  exact gate_block _ _ _ _ _

/-- The second gate launch: as the first. -/
theorem idx4 : win4_0.index t4_0 = ![0, 0] ∧ win4_1.index t4_0 = ![0, 0] ∧ win4_2.index t4_0 = ![0, 0]
    ∧ win4_3.index t4_0 = ![0, 0] := by decide +kernel

/-- The second gate launch leaves `gateCols` of its inputs. -/
theorem final4 (c : Dev nD) : (dat4 V c).arrAt 3 cfg4.N = gateCols (V c main_v37) (V c main_v6) (V c main_v8) := by
  have e0 : iblk4 V c 0 t4_0 = V c main_v37 := by blk_ext! [iblk4, idx4]
  have e1 : iblk4 V c 1 t4_0 = V c main_v6 := by blk_ext! [iblk4, idx4]
  have e2 : iblk4 V c 2 t4_0 = V c main_v8 := by blk_ext! [iblk4, idx4]
  refine (dat4 V c).arrAt_eq_of_after_last 3 t4_0 (by decide +kernel) _ fun j => ?_
  blk_simp
  rw [after4_3]; unfold_out out4_3; frame_out
  rw [e0, e1, e2, eq_ix2 j]
  exact gate_block _ _ _ _ _

end Cert.Moe
-- ==== Proof.ExpertBlock.lean ====
/- What one block of the expert launches computes. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Moe
open Cert.KernelIdeal Cert.KernelIdeal.Gen

/-- Row `r` (expert and channel), column `q` of the rectified convolutions of one block, from the block's nine shifted
    copies of the state. -/
def reluBlk (a : Fin 9 → FVec Ideal S16x4x16x256 .f32) (ws : FVec Ideal S64x144 .f32) (be : FVec Ideal S64x1 .f32)
    (r : Fin 64) (q : Fin 16384) : EReal :=
  max ((∑ t : Fin 9, ∑ i : Fin 16, ws (ix2 r ⟨t.val * 16 + i.val, by omega⟩)
      * a t (ix4 i ⟨q.val / 4096, by omega⟩ ⟨q.val / 256 % 16, by omega⟩ ⟨q.val % 256, by omega⟩)) + be (ix2 r 0)) 0

/-- Channel `o`, column `q` of the block: the four experts' rectified convolutions, each times its gate weight. -/
def expertBlk (a : Fin 9 → FVec Ideal S16x4x16x256 .f32) (ws : FVec Ideal S64x144 .f32) (be : FVec Ideal S64x1 .f32)
    (g : Fin 4 → FVec Ideal S1x256 .f32) (o : Fin 16) (q : Fin 16384) : EReal :=
  ∑ e : Fin 4, reluBlk a ws be ⟨e.val * 16 + o.val, by omega⟩ q * g e (ix2 0 ⟨q.val % 256, by omega⟩)

/-- An entry of a two-level family, found from its flat position. -/
theorem at_flat (f : Fin 9 → Fin 16 → EReal) (x : Fin 144) (t : Fin 9) (i : Fin 16) (h : x.val = t.val * 16 + i.val) :
    f t i = f ⟨x.val / 16, by omega⟩ ⟨x.val % 16, by omega⟩ := by
  have ht : t = ⟨x.val / 16, by omega⟩ := Fin.ext (by simp only; omega)
  have hi : i = ⟨x.val % 16, by omega⟩ := Fin.ext (by simp only; omega)
  rw [← ht, ← hi]

/-- Nine pieces of sixteen, looked up one after the other, are the piece `x / 16` at `x % 16`. -/
theorem nine_pieces (f : Fin 9 → Fin 16 → EReal) (x : Fin 144) :
    (if h0 : x.val < 16 then f 0 ⟨x.val, h0⟩
      else if h1 : x.val - 16 < 16 then f 1 ⟨x.val - 16, h1⟩
      else if h2 : x.val - 16 - 16 < 16 then f 2 ⟨x.val - 16 - 16, h2⟩
      else if h3 : x.val - 16 - 16 - 16 < 16 then f 3 ⟨x.val - 16 - 16 - 16, h3⟩
      else if h4 : x.val - 16 - 16 - 16 - 16 < 16 then f 4 ⟨x.val - 16 - 16 - 16 - 16, h4⟩
      else if h5 : x.val - 16 - 16 - 16 - 16 - 16 < 16 then f 5 ⟨x.val - 16 - 16 - 16 - 16 - 16, h5⟩
      else if h6 : x.val - 16 - 16 - 16 - 16 - 16 - 16 < 16 then f 6 ⟨x.val - 16 - 16 - 16 - 16 - 16 - 16, h6⟩
      else if h7 : x.val - 16 - 16 - 16 - 16 - 16 - 16 - 16 < 16 then f 7 ⟨x.val - 16 - 16 - 16 - 16 - 16 - 16 - 16, h7⟩
      else f 8 ⟨x.val - 16 - 16 - 16 - 16 - 16 - 16 - 16 - 16, by omega⟩)
      = f ⟨x.val / 16, by omega⟩ ⟨x.val % 16, by omega⟩ := by
  split_ifs <;> refine at_flat f x _ _ ?_ <;> simp <;> omega

set_option maxHeartbeats 2000000 in
/-- The matrix product over the nine stacked copies is the sum over the nine copies. -/
theorem expert_relu (a0 a1 a2 a3 a4 a5 a6 a7 a8 : FVec Ideal S16x4x16x256 .f32) (ws : FVec Ideal S64x144 .f32)
    (be : FVec Ideal S64x1 .f32) (r : Fin 64) (q : Fin 16384) :
      k2_pay7 (F := Ideal) a0 a1 a2 a3 a4 a5 a6 a7 a8 ws be (ix2 r q)
      = reluBlk ![a0, a1, a2, a3, a4, a5, a6, a7, a8] ws be r q := by
  pointwise [k2_pay7]
  unfold reluBlk
  refine congrArg (max · 0) (congrArg (· + _) ?_)
  refine (Finset.sum_congr rfl fun x _ => congrArg (ws (ix2 r x) * ·) (nine_pieces (fun t i =>
    (![a0, a1, a2, a3, a4, a5, a6, a7, a8] t) (ix4 i ⟨q.val / 4096, by omega⟩ ⟨q.val / 256 % 16, by omega⟩
      ⟨q.val % 256, by omega⟩)) x)).trans ?_
  rw [Fin.sum_univ_tiles 9 16 rfl]
  refine Finset.sum_congr rfl fun t _ => Finset.sum_congr rfl fun i _ => congrArg (_ * ·) ?_
  exact (at_flat (fun t i =>
    (![a0, a1, a2, a3, a4, a5, a6, a7, a8] t) (ix4 i ⟨q.val / 4096, by omega⟩ ⟨q.val / 256 % 16, by omega⟩
      ⟨q.val % 256, by omega⟩)) ⟨t.val * 16 + i.val, by omega⟩ t i rfl).symm

/-- The expert block's stored value. -/
theorem expert_pay (a0 a1 a2 a3 a4 a5 a6 a7 a8 : FVec Ideal S16x4x16x256 .f32) (ws : FVec Ideal S64x144 .f32)
    (be : FVec Ideal S64x1 .f32) (g0 g1 g2 g3 : FVec Ideal S1x256 .f32) (o : Fin 16) (q : Fin 16384) :
    k2_pay1 (F := Ideal)
      (k2_pay7 (k2_pay2 a0) (k2_pay3 a1) (k2_pay4 a2) (k2_pay5 a3) (k2_pay6 a4) a5 a6 a7 a8 ws be)
      (k2_pay8 (k2_pay2 a0) (k2_pay3 a1) (k2_pay4 a2) (k2_pay5 a3) (k2_pay6 a4) a5 a6 a7 a8 ws be g0) g1 g2 g3 (ix2 o q)
      = expertBlk ![a0, a1, a2, a3, a4, a5, a6, a7, a8] ws be ![g0, g1, g2, g3] o q := by
  have i2 : k2_pay2 (F := Ideal) a0 = a0 := by funext j; pointwise [k2_pay2]
  have i3 : k2_pay3 (F := Ideal) a1 = a1 := by funext j; pointwise [k2_pay3]
  have i4 : k2_pay4 (F := Ideal) a2 = a2 := by funext j; pointwise [k2_pay4]
  have i5 : k2_pay5 (F := Ideal) a3 = a3 := by funext j; pointwise [k2_pay5]
  have i6 : k2_pay6 (F := Ideal) a4 = a4 := by funext j; pointwise [k2_pay6]
  rw [i2, i3, i4, i5, i6]
  pointwise [k2_pay1, k2_pay8, expertBlk, expert_relu, Fin.sum_univ_four]

end Cert.Moe
-- ==== Proof.RegionExpert.lean ====
/- What the two expert launches leave in their arrays. -/
module

public import proofs.«01_k».proof.Proof.Gen.KernelIdeal.Frame
public import Idealize.ShloMosaic.Lib.Pipeline.ValueKit
public import proofs.«01_k».proof.Proof.ExpertBlock

@[expose] public section

set_option maxRecDepth 16384

noncomputable section

open Idealize.ShloMosaic Idealize.ShloMosaic.TcCoe Idealize.SL.Sem
open Idealize.ShloMosaic.Pipeline (Dat)

namespace Cert.Moe
open Cert.KernelIdeal Cert.KernelIdeal.Gen
variable (V : (c : Dev nD) → (b : Ref sig .tc) → Buf (Elt Ideal) ((c : Thread nD τ).loc b))

/-- Row `r` (expert and channel), place `(y, x)`, image `b` of the rectified convolutions of the padded state. -/
def reluAt (P : FVec Ideal S16x18x18x256 .f32) (ws : FVec Ideal S64x144 .f32) (be : FVec Ideal S64x1 .f32)
    (r : Fin 64) (y x : Fin 16) (b : Fin 256) : EReal :=
  max ((∑ t : Fin 9, ∑ i : Fin 16, ws (ix2 r ⟨t.val * 16 + i.val, by omega⟩)
      * P (ix4 i ⟨y.val + t.val / 3, by omega⟩ ⟨x.val + t.val % 3, by omega⟩ b)) + be (ix2 r 0)) 0

/-- The expert layer on columns: channel `o`, column `q` (place and image): the four experts' rectified convolutions,
    each times its gate weight. -/
def expertCols (P : FVec Ideal S16x18x18x256 .f32) (ws : FVec Ideal S64x144 .f32) (be : FVec Ideal S64x1 .f32)
    (W : FVec Ideal S8x256 .f32) : FVec Ideal S16x65536 .f32 :=
  fun j => ∑ e : Fin 4,
    reluAt P ws be ⟨e.val * 16 + (j 0).val, by have : (j 0).val < 16 := (j 0).isLt; omega⟩
      ⟨(j 1).val / 4096, by have : (j 1).val < 65536 := (j 1).isLt; omega⟩ ⟨(j 1).val / 256 % 16, by omega⟩ ⟨(j 1).val % 256, by omega⟩
      * W (ix2 ⟨e.val, by omega⟩ ⟨(j 1).val % 256, by omega⟩)

/-- A block of the expert layer is `expertCols` on its columns: `a` holds the nine shifted copies of rows `4 t ..` of the
    padded state, `g` the four rows of gate weights. -/
theorem expert_point (P : FVec Ideal S16x18x18x256 .f32) (ws : FVec Ideal S64x144 .f32) (be : FVec Ideal S64x1 .f32)
    (W : FVec Ideal S8x256 .f32) (a : Fin 9 → FVec Ideal S16x4x16x256 .f32) (g : Fin 4 → FVec Ideal S1x256 .f32) (t : Fin 4)
    (ha : ∀ (k : Fin 9) (i : Fin 16) (y : Fin 4) (x : Fin 16) (b : Fin 256), a k (ix4 i y x b)
      = P (ix4 i ⟨t.val * 4 + k.val / 3 + y.val, by omega⟩ ⟨k.val % 3 + x.val, by omega⟩ b))
    (hg : ∀ (e : Fin 4) (b : Fin 256), g e (ix2 0 b) = W (ix2 ⟨e.val, by omega⟩ b)) (o : Fin 16) (q : Fin 16384) :
    expertBlk a ws be g o q = expertCols P ws be W (ix2 o ⟨t.val * 16384 + q.val, by omega⟩) := by
  unfold expertBlk reluBlk expertCols reluAt
  refine Finset.sum_congr rfl fun e _ => Ideal.mul_congr ?_ ?_
  · refine congrArg (max · 0) (Ideal.add_congr (Finset.sum_congr rfl fun k _ => Finset.sum_congr rfl fun i _ =>
      Ideal.mul_congr rfl ?_) rfl)
    rw [ha]
    blk_ext
  · rw [hg]
    blk_ext

/-- Point `t` of the first expert launch: every input is taken whole, the result's block is the `t`-th of 16384
    columns. -/
theorem idx2 : ∀ t : Fin cfg2.N, win2_0.index t = ![0, 0, 0, 0] ∧ win2_1.index t = ![0, 0] ∧ win2_2.index t = ![0, 0]
    ∧ win2_3.index t = ![0, 0] ∧ win2_4.index t = ![0, t.val] := (by decide +kernel : ∀ t : Fin grid2.N, _)

/-- Where the nine shifted copies of point `t` start: four rows of the padded state per point, shifted by the tap. -/
theorem off2 : ∀ t : Fin cfg2.N,
    k2_off1 (grid2.coords t) 0#32 = ![0, t.val * 4 + 0, 0, 0] ∧ k2_off2 (grid2.coords t) 0#32 = ![0, t.val * 4 + 0, 1, 0]
    ∧ k2_off3 (grid2.coords t) 0#32 = ![0, t.val * 4 + 0, 2, 0] ∧ k2_off1 (grid2.coords t) 1#32 = ![0, t.val * 4 + 1, 0, 0]
    ∧ k2_off2 (grid2.coords t) 1#32 = ![0, t.val * 4 + 1, 1, 0] ∧ k2_off3 (grid2.coords t) 1#32 = ![0, t.val * 4 + 1, 2, 0]
    ∧ k2_off1 (grid2.coords t) 2#32 = ![0, t.val * 4 + 2, 0, 0] ∧ k2_off2 (grid2.coords t) 2#32 = ![0, t.val * 4 + 2, 1, 0]
    ∧ k2_off3 (grid2.coords t) 2#32 = ![0, t.val * 4 + 2, 2, 0] := (by decide +kernel : ∀ t : Fin grid2.N, _)

set_option maxHeartbeats 2000000 in
/-- The first expert launch leaves `expertCols` of its inputs. -/
theorem final2 (c : Dev nD) : (dat2 V c).arrAt 4 cfg2.N
    = expertCols (V c main_v33) (V c main_v3) (V c main_v34) (V c main_v29) := by
  refine (dat2 V c).arrAt_eq_of_covers 4 _ (by decide +kernel) fun t _ y => ?_
  blk_simp
  rw [after2_4]; unfold Gen.outsAt2; frame_out
  rw [eq_ix2 y]
  obtain ⟨o1, o2, o3, o4, o5, o6, o7, o8, o9⟩ := off2 t
  have e1 : iblk2 V c 1 t = V c main_v3 := by blk_ext! [iblk2, idx2 t]
  have e2 : iblk2 V c 2 t = V c main_v34 := by blk_ext! [iblk2, idx2 t]
  have e3 : iblk2 V c 3 t = V c main_v29 := by blk_ext! [iblk2, idx2 t]
  have e0 : iblk2 V c 0 t = V c main_v33 := by blk_ext! [iblk2, idx2 t]
  rw [e0, e1, e2, e3]
  refine (expert_pay _ _ _ _ _ _ _ _ _ _ _ _ _ _ _ (y 0) (y 1)).trans
    ((expert_point (V c main_v33) _ _ (V c main_v29) _ _ ⟨t.val, t.isLt⟩ (fun k i y x b => ?_) (fun e b => ?_) _ _).trans ?_)
  · fin_cases k
    all_goals
      simp only [Fin.reduceFinMk, Fin.zero_eta, Fin.mk_one, Fin.isValue, Matrix.cons_val]
      pointwise
      blk_ext [o1, o2, o3, o4, o5, o6, o7, o8, o9]
  · fin_cases e
    all_goals
      simp only [Fin.reduceFinMk, Fin.zero_eta, Fin.mk_one, Fin.isValue, Matrix.cons_val]
      pointwise
      blk_ext
  · blk_ext [idx2 t]

/-- Point `t` of the second expert launch: every input is taken whole, the result's block is the `t`-th of 16384
    columns. -/
theorem idx5 : ∀ t : Fin cfg5.N, win5_0.index t = ![0, 0, 0, 0] ∧ win5_1.index t = ![0, 0] ∧ win5_2.index t = ![0, 0]
    ∧ win5_3.index t = ![0, 0] ∧ win5_4.index t = ![0, t.val] := (by decide +kernel : ∀ t : Fin grid5.N, _)

/-- Where the nine shifted copies of point `t` start: four rows of the padded state per point, shifted by the tap. -/
theorem off5 : ∀ t : Fin cfg5.N,
    k5_off1 (grid5.coords t) 0#32 = ![0, t.val * 4 + 0, 0, 0] ∧ k5_off2 (grid5.coords t) 0#32 = ![0, t.val * 4 + 0, 1, 0]
    ∧ k5_off3 (grid5.coords t) 0#32 = ![0, t.val * 4 + 0, 2, 0] ∧ k5_off1 (grid5.coords t) 1#32 = ![0, t.val * 4 + 1, 0, 0]
    ∧ k5_off2 (grid5.coords t) 1#32 = ![0, t.val * 4 + 1, 1, 0] ∧ k5_off3 (grid5.coords t) 1#32 = ![0, t.val * 4 + 1, 2, 0]
    ∧ k5_off1 (grid5.coords t) 2#32 = ![0, t.val * 4 + 2, 0, 0] ∧ k5_off2 (grid5.coords t) 2#32 = ![0, t.val * 4 + 2, 1, 0]
    ∧ k5_off3 (grid5.coords t) 2#32 = ![0, t.val * 4 + 2, 2, 0] := (by decide +kernel : ∀ t : Fin grid5.N, _)

set_option maxHeartbeats 2000000 in
/-- The second expert launch leaves `expertCols` of its inputs. -/
theorem final5 (c : Dev nD) : (dat5 V c).arrAt 4 cfg5.N
    = expertCols (V c main_v42) (V c main_v3) (V c main_v43) (V c main_v38) := by
  refine (dat5 V c).arrAt_eq_of_covers 4 _ (by decide +kernel) fun t _ y => ?_
  blk_simp
  rw [after5_4]; unfold Gen.outsAt5; frame_out
  rw [eq_ix2 y]
  obtain ⟨o1, o2, o3, o4, o5, o6, o7, o8, o9⟩ := off5 t
  have e1 : iblk5 V c 1 t = V c main_v3 := by blk_ext! [iblk5, idx5 t]
  have e2 : iblk5 V c 2 t = V c main_v43 := by blk_ext! [iblk5, idx5 t]
  have e3 : iblk5 V c 3 t = V c main_v38 := by blk_ext! [iblk5, idx5 t]
  have e0 : iblk5 V c 0 t = V c main_v42 := by blk_ext! [iblk5, idx5 t]
  rw [e0, e1, e2, e3]
  refine (expert_pay _ _ _ _ _ _ _ _ _ _ _ _ _ _ _ (y 0) (y 1)).trans
    ((expert_point (V c main_v42) _ _ (V c main_v38) _ _ ⟨t.val, t.isLt⟩ (fun k i y x b => ?_) (fun e b => ?_) _ _).trans ?_)
  · fin_cases k
    all_goals
      simp only [Fin.reduceFinMk, Fin.zero_eta, Fin.mk_one, Fin.isValue, Matrix.cons_val]
      pointwise
      blk_ext [o1, o2, o3, o4, o5, o6, o7, o8, o9]
  · fin_cases e
    all_goals
      simp only [Fin.reduceFinMk, Fin.zero_eta, Fin.mk_one, Fin.isValue, Matrix.cons_val]
      pointwise
      blk_ext
  · blk_ext [idx5 t]

end Cert.Moe
-- ==== Proof.RegionTail.lean ====
/- What the last launch (convolution, 2 by 2 maximum, two dense layers) leaves in its array. -/
module

public import proofs.«01_k».proof.Proof.Gen.KernelIdeal.Frame
public import Idealize.ShloMosaic.Lib.Pipeline.ValueKit
public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.Moe
open Cert.KernelIdeal Cert.KernelIdeal.Gen
variable (V : (c : Dev nD) → (b : Ref sig .tc) → Buf (Elt Ideal) ((c : Thread nD τ).loc b))

/-- The last convolution on columns: channel `o`, column `q`. -/
def tailConv (X : FVec Ideal S144x16384 .f32) (w : FVec Ideal S8x144 .f32) (b : FVec Ideal S8x1 .f32)
    (o : Fin 8) (q : Fin 16384) : EReal :=
  max ((∑ k : Fin 144, w (ix2 o k) * X (ix2 k q)) + b (ix2 o 0)) 0

/-- The maximum over the four columns of pooled place `p`, image `b`. -/
def tailPool (X : FVec Ideal S144x16384 .f32) (w : FVec Ideal S8x144 .f32) (b : FVec Ideal S8x1 .f32)
    (o : Fin 8) (p : Fin 16) (i : Fin 256) : EReal :=
  Finset.univ.fold max (⊥ : EReal) fun s : Fin 4 => tailConv X w b o ⟨p.val * 1024 + s.val * 256 + i.val, by omega⟩

/-- The first dense layer of the tail, row `r`, image `i`. -/
def tailFc (X : FVec Ideal S144x16384 .f32) (w : FVec Ideal S8x144 .f32) (b : FVec Ideal S8x1 .f32)
    (A : FVec Ideal S16x128 .f32) (a : FVec Ideal S16x1 .f32) (r : Fin 16) (i : Fin 256) : EReal :=
  max ((∑ k : Fin 128, A (ix2 r k) * tailPool X w b ⟨k.val / 16, by omega⟩ ⟨k.val % 16, by omega⟩ i) + a (ix2 r 0)) 0

/-- The whole tail on columns. -/
def tailCols (X : FVec Ideal S144x16384 .f32) (w : FVec Ideal S8x144 .f32) (b : FVec Ideal S8x1 .f32)
    (A : FVec Ideal S16x128 .f32) (a : FVec Ideal S16x1 .f32) (B : FVec Ideal S16x16 .f32) (d : FVec Ideal S16x1 .f32) :
    FVec Ideal S16x256 .f32 :=
  fun j => (∑ k : Fin 16, B (ix2 (j 0) k) * tailFc X w b A a k (j 1)) + d (ix2 (j 0) 0)

/-- The tail's one block computes `tailCols`. -/
theorem tail_pay (X : FVec Ideal S144x16384 .f32) (w : FVec Ideal S8x144 .f32) (b : FVec Ideal S8x1 .f32)
    (A : FVec Ideal S16x128 .f32) (a : FVec Ideal S16x1 .f32) (B : FVec Ideal S16x16 .f32) (d : FVec Ideal S16x1 .f32)
    (r : Fin 16) (i : Fin 256) :
    k7_pay1 (F := Ideal) w X b A a B d (ix2 r i) = tailCols X w b A a B d (ix2 r i) := by
  pointwise [k7_pay1, tailCols, tailFc, tailPool, tailConv, bot_bits]

/-- The last launch has one point; every block is its whole array. -/
theorem idx7 : win7_0.index t7_0 = ![0, 0] ∧ win7_1.index t7_0 = ![0, 0] ∧ win7_2.index t7_0 = ![0, 0]
    ∧ win7_3.index t7_0 = ![0, 0] ∧ win7_4.index t7_0 = ![0, 0] ∧ win7_5.index t7_0 = ![0, 0]
    ∧ win7_6.index t7_0 = ![0, 0] ∧ win7_7.index t7_0 = ![0, 0] := by decide +kernel

/-- The last launch leaves `tailCols` of its inputs. -/
theorem final7 (c : Dev nD) : (dat7 V c).arrAt 7 cfg7.N
    = tailCols (V c main_v61) (V c main_v5) (V c main_v62) (V c main_arg7) (V c main_v63) (V c main_v9) (V c main_v11) := by
  have e0 : iblk7 V c 0 t7_0 = V c main_v61 := by blk_ext! [iblk7, idx7]
  have e1 : iblk7 V c 1 t7_0 = V c main_v5 := by blk_ext! [iblk7, idx7]
  have e2 : iblk7 V c 2 t7_0 = V c main_v62 := by blk_ext! [iblk7, idx7]
  have e3 : iblk7 V c 3 t7_0 = V c main_arg7 := by blk_ext! [iblk7, idx7]
  have e4 : iblk7 V c 4 t7_0 = V c main_v63 := by blk_ext! [iblk7, idx7]
  have e5 : iblk7 V c 5 t7_0 = V c main_v9 := by blk_ext! [iblk7, idx7]
  have e6 : iblk7 V c 6 t7_0 = V c main_v11 := by blk_ext! [iblk7, idx7]
  refine (dat7 V c).arrAt_eq_of_after_last 7 t7_0 (by decide +kernel) _ fun j => ?_
  blk_simp
  rw [after7_7]; frame_out
  rw [e0, e1, e2, e3, e4, e5, e6]
  rw [eq_ix2 j]
  exact tail_pay _ _ _ _ _ _ _ _ _

end Cert.Moe
-- ==== Proof.Columns.lean ====
/- Each launch's array function, fed with arrays that hold a state, parameters or a padded image, is the network's layer. -/
module

public import proofs.«01_k».proof.Proof.Gen.KernelIdeal.Frame
public import Idealize.ShloMosaic.Lib.Pipeline.ValueKit
public import proofs.«01_k».proof.Proof.Spec
public import proofs.«01_k».proof.Proof.RegionConv
public import proofs.«01_k».proof.Proof.RegionDense
public import proofs.«01_k».proof.Proof.RegionGate
public import proofs.«01_k».proof.Proof.RegionExpert
public import proofs.«01_k».proof.Proof.RegionTail

@[expose] public section

set_option maxRecDepth 16384

noncomputable section

open Idealize.ShloMosaic Idealize.ShloMosaic.TcCoe Idealize.SL.Sem
open Idealize.ShloMosaic.Pipeline (Dat)

namespace Cert.Moe
open Cert.KernelIdeal Cert.KernelIdeal.Gen
variable (P : Params)

/-- Column of place `p` (row and column of the state) and image `b`. -/
abbrev placeCol (p : Fin 256) (b : Fin 256) : Fin 65536 := ⟨p.val * 256 + b.val, by omega⟩

/-- The first launch computes the first layer. -/
theorem conv_stem (X : Fin 256 → Fin 3 → Fin 32 → Fin 32 → EReal) (A : FVec Ideal S16x27 .f32) (B : FVec Ideal S27x65536 .f32)
    (bb : FVec Ideal S16x1 .f32)
    (hA : ∀ (o : Fin 16) (k : Fin 27), A (ix2 o k)
      = P.W1 o ⟨k.val % 3, by omega⟩ ⟨k.val / 9, by omega⟩ ⟨k.val / 3 % 3, by omega⟩)
    (hB : ∀ (k : Fin 27) (q : Fin 65536), B (ix2 k q) = padded (X ⟨q.val % 256, by omega⟩ ⟨k.val % 3, by omega⟩)
      (2 * (q.val / 4096) + k.val / 9) (2 * (q.val / 256 % 16) + k.val / 3 % 3))
    (hb : ∀ o : Fin 16, bb (ix2 o 0) = P.b1 o) (d : Fin 4096) (b : Fin 256) :
    convCols A B bb (ix2 ⟨d.val / 256, by omega⟩ (placeCol ⟨d.val % 256, by omega⟩ b)) = stem P (X b) d := by
  unfold convCols stem conv
  refine congrArg (max · 0) (Ideal.add_congr ?_ (hb _))
  refine (Fin.sum_univ_tiles 9 3 rfl _).trans (Finset.sum_congr rfl fun t _ => Finset.sum_congr rfl fun i _ => ?_)
  refine Ideal.mul_congr ((hA _ _).trans ?_) ((hB _ _).trans ?_)
  all_goals
    have h1 : (t.val * 3 + i.val) % 3 = i.val := by omega
    have h2 : (t.val * 3 + i.val) / 9 = t.val / 3 := by omega
    have h3 : (t.val * 3 + i.val) / 3 % 3 = t.val % 3 := by omega
    have h4 : (d.val % 256 * 256 + b.val) % 256 = b.val := by omega
    have h5 : (d.val % 256 * 256 + b.val) / 4096 = d.val / 16 % 16 := by omega
    have h6 : (d.val % 256 * 256 + b.val) / 256 % 16 = d.val % 16 := by omega
    simp only [ix2_0, ix2_1, Fin.eta, h1, h2, h3, h4, h5, h6]

/-- The gate launch's logits. -/
theorem gate_logit (f : Fin 256 → Fin 4096 → EReal) (X : FVec Ideal S4096x256 .f32) (G : FVec Ideal S8x4096 .f32)
    (g : FVec Ideal S8x1 .f32) (hX : ∀ d b, X (ix2 d b) = f b d)
    (hG : ∀ (e : Fin 4) d, G (ix2 ⟨e.val, by omega⟩ d) = P.G e d) (hg : ∀ e : Fin 4, g (ix2 ⟨e.val, by omega⟩ 0) = P.g e)
    (b : Fin 256) : gateLogit X G g b = logit P (f b) := by
  funext e
  unfold gateLogit gateLin logit
  exact Ideal.add_congr (Finset.sum_congr rfl fun d _ => Ideal.mul_congr (hG e d) (hX d b)) (hg e)

/-- The gate launch's first four rows are the weights. -/
theorem gate_weight (f : Fin 256 → Fin 4096 → EReal) (X : FVec Ideal S4096x256 .f32) (G : FVec Ideal S8x4096 .f32)
    (g : FVec Ideal S8x1 .f32) (h : ∀ b, gateLogit X G g b = logit P (f b)) (e : Fin 4) (b : Fin 256) :
    gateCols X G g (ix2 ⟨e.val, by omega⟩ b) = gateW (logit P (f b)) e := by
  rw [← h]
  exact dif_pos e.isLt

/-- Its last four rows are the logits. -/
theorem gate_tail (f : Fin 256 → Fin 4096 → EReal) (X : FVec Ideal S4096x256 .f32) (G : FVec Ideal S8x4096 .f32)
    (g : FVec Ideal S8x1 .f32) (h : ∀ b, gateLogit X G g b = logit P (f b)) (e : Fin 4) (b : Fin 256) :
    gateCols X G g (ix2 ⟨e.val + 4, by omega⟩ b) = logit P (f b) e := by
  rw [← h]
  exact dif_neg (by show ¬ e.val + 4 < 4; omega)

/-- The expert launch computes the mixture. -/
theorem expert_mix (f : Fin 256 → Fin 4096 → EReal) (X : FVec Ideal S16x18x18x256 .f32) (ws : FVec Ideal S64x144 .f32)
    (be : FVec Ideal S64x1 .f32) (W : FVec Ideal S8x256 .f32)
    (hX : ∀ i Y Z b, X (ix4 i Y Z b) = padded (plane (f b) i) Y.val Z.val)
    (hw : ∀ (r : Fin 64) (k : Fin 144), ws (ix2 r k) = P.We ⟨r.val / 16, by omega⟩ ⟨r.val % 16, by omega⟩ ⟨k.val % 16, by omega⟩
      ⟨k.val / 48, by omega⟩ ⟨k.val / 16 % 3, by omega⟩)
    (hb : ∀ r : Fin 64, be (ix2 r 0) = P.be ⟨r.val / 16, by omega⟩ ⟨r.val % 16, by omega⟩)
    (hW : ∀ (e : Fin 4) b, W (ix2 ⟨e.val, by omega⟩ b) = gateW (logit P (f b)) e) (d : Fin 4096) (b : Fin 256) :
    expertCols X ws be W (ix2 ⟨d.val / 256, by omega⟩ (placeCol ⟨d.val % 256, by omega⟩ b)) = mix P (f b) d := by
  unfold expertCols reluAt mix expert conv
  refine Finset.sum_congr rfl fun e _ => Ideal.mul_congr (congrArg (max · 0) (Ideal.add_congr
    (Finset.sum_congr rfl fun t _ => Finset.sum_congr rfl fun i _ => Ideal.mul_congr ((hw _ _).trans ?_) ((hX _ _ _ _).trans ?_))
    ((hb _).trans ?_))) ?_
  all_goals
    have h1 : ∀ (t : Fin 9) (i : Fin 16), (t.val * 16 + i.val) % 16 = i.val := fun t i => by omega
    have h2 : ∀ (t : Fin 9) (i : Fin 16), (t.val * 16 + i.val) / 48 = t.val / 3 := fun t i => by omega
    have h3 : ∀ (t : Fin 9) (i : Fin 16), (t.val * 16 + i.val) / 16 % 3 = t.val % 3 := fun t i => by omega
    have h4 : (d.val % 256 * 256 + b.val) % 256 = b.val := by omega
    have h5 : (d.val % 256 * 256 + b.val) / 4096 = d.val / 16 % 16 := by omega
    have h6 : (d.val % 256 * 256 + b.val) / 256 % 16 = d.val % 16 := by omega
    have h7 : (e.val * 16 + d.val / 256) / 16 = e.val := by omega
    have h8 : (e.val * 16 + d.val / 256) % 16 = d.val / 256 := by omega
    simp only [ix2_0, ix2_1, Fin.eta, one_mul, h1, h2, h3, h4, h5, h6, h7, h8]
  exact hW e b

/-- The dense launch computes the linear map. -/
theorem dense_route (f : Fin 256 → Fin 4096 → EReal) (T : FVec Ideal S4096x4096 .f32) (X : FVec Ideal S4096x256 .f32)
    (t : FVec Ideal S4096x1 .f32) (hT : ∀ k d, T (ix2 k d) = P.T k d) (hX : ∀ d b, X (ix2 d b) = mix P (f b) d)
    (ht : ∀ k, t (ix2 k 0) = P.t k) (k : Fin 4096) (b : Fin 256) : denseCols T X t (ix2 k b) = route P (f b) k := by
  unfold denseCols route
  exact Ideal.add_congr (Finset.sum_congr rfl fun d _ => Ideal.mul_congr (hT k d) (hX d b)) (ht k)

/-- The last launch's convolution. -/
theorem tail_conv (f : Fin 256 → Fin 4096 → EReal) (X : FVec Ideal S144x16384 .f32) (w : FVec Ideal S8x144 .f32)
    (bl : FVec Ideal S8x1 .f32)
    (hX : ∀ (k : Fin 144) (q : Fin 16384), X (ix2 k q) = padded (plane (f ⟨q.val % 256, by omega⟩) ⟨k.val % 16, by omega⟩)
      (2 * (2 * (q.val / 4096) + q.val / 512 % 2) + k.val / 48) (2 * (2 * (q.val / 1024 % 4) + q.val / 256 % 2) + k.val / 16 % 3))
    (hw : ∀ (o : Fin 8) (k : Fin 144), w (ix2 o k) = P.Wl o ⟨k.val % 16, by omega⟩ ⟨k.val / 48, by omega⟩ ⟨k.val / 16 % 3, by omega⟩)
    (hb : ∀ o : Fin 8, bl (ix2 o 0) = P.bl o) (o : Fin 8) (p : Fin 16) (b : Fin 256) :
    tailPool X w bl o p b = pool P (f b) o (p.val / 4) (p.val % 4) := by
  unfold tailPool pool tailConv lastConv conv
  refine Finset.fold_congr fun s _ => congrArg (max · 0) (Ideal.add_congr ?_ (hb o))
  refine (Fin.sum_univ_tiles 9 16 rfl _).trans (Finset.sum_congr rfl fun t _ => Finset.sum_congr rfl fun i _ => ?_)
  refine Ideal.mul_congr ((hw _ _).trans ?_) ((hX _ _).trans ?_)
  all_goals
    have h1 : (t.val * 16 + i.val) % 16 = i.val := by omega
    have h2 : (t.val * 16 + i.val) / 48 = t.val / 3 := by omega
    have h3 : (t.val * 16 + i.val) / 16 % 3 = t.val % 3 := by omega
    have h4 : (p.val * 1024 + s.val * 256 + b.val) % 256 = b.val := by omega
    have h5 : (p.val * 1024 + s.val * 256 + b.val) / 4096 = p.val / 4 := by omega
    have h6 : (p.val * 1024 + s.val * 256 + b.val) / 512 % 2 = s.val / 2 := by omega
    have h7 : (p.val * 1024 + s.val * 256 + b.val) / 1024 % 4 = p.val % 4 := by omega
    have h8 : (p.val * 1024 + s.val * 256 + b.val) / 256 % 2 = s.val % 2 := by omega
    simp only [Fin.eta, h1, h2, h3, h4, h5, h6, h7, h8]

/-- The last launch's first ten rows are the scores. -/
theorem tail_scores (f : Fin 256 → Fin 4096 → EReal) (X : FVec Ideal S144x16384 .f32) (w : FVec Ideal S8x144 .f32)
    (bl : FVec Ideal S8x1 .f32) (A : FVec Ideal S16x128 .f32) (a : FVec Ideal S16x1 .f32) (B : FVec Ideal S16x16 .f32)
    (d : FVec Ideal S16x1 .f32)
    (hp : ∀ o (p : Fin 16) b, tailPool X w bl o p b = pool P (f b) o (p.val / 4) (p.val % 4))
    (hA : ∀ r k, A (ix2 r k) = P.A r k) (ha : ∀ r, a (ix2 r 0) = P.a r)
    (hB : ∀ (r : Fin 10) k, B (ix2 ⟨r.val, by omega⟩ k) = P.B r k) (hd : ∀ r : Fin 10, d (ix2 ⟨r.val, by omega⟩ 0) = P.d r)
    (r : Fin 10) (b : Fin 256) : tailCols X w bl A a B d (ix2 ⟨r.val, by omega⟩ b) = scores P (f b) r := by
  unfold tailCols scores tailFc hidden
  refine Ideal.add_congr (Finset.sum_congr rfl fun k _ => Ideal.mul_congr (hB r k) (congrArg (max · 0)
    (Ideal.add_congr (Finset.sum_congr rfl fun i _ => Ideal.mul_congr (hA _ _) ((hp _ _ _).trans ?_)) (ha _)))) (hd r)
  have h1 : i.val % 16 / 4 = i.val / 4 % 4 := by omega
  have h2 : i.val % 16 % 4 = i.val % 4 := by omega
  simp only [ix2_1, h1, h2]

end Cert.Moe
-- ==== Proof.Border.lean ====
/- A border of zeros, and a convolution as nine taps in order. -/
module

public import proofs.«01_k».proof.Proof.Spec
public import Idealize.ShloMosaic.Lib.Pipeline.ValueKit

@[expose] public section

set_option maxRecDepth 16384

noncomputable section

open Idealize.ShloMosaic

namespace Cert.Moe

/-- A square array with a border of zeros is `padded`. -/
theorem padded_of {H : ℕ} (f : Fin H → Fin H → EReal) (Y Z : ℕ) (z : EReal) (hz : z = 0) :
    (if h : (1 ≤ Y ∧ Y - 1 < H) ∧ 1 ≤ Z ∧ Z - 1 < H then f ⟨Y - 1, h.1.2⟩ ⟨Z - 1, h.2.2⟩ else z) = padded f Y Z := by
  unfold padded
  subst hz
  by_cases h : (1 ≤ Y ∧ Y ≤ H) ∧ 1 ≤ Z ∧ Z ≤ H
  · rw [dif_pos h, dif_pos ⟨⟨h.1.1, by omega⟩, h.2.1, by omega⟩]
  · rw [dif_neg h, dif_neg (fun h' => h ⟨⟨h'.1.1, by omega⟩, h'.2.1, by omega⟩)]

/-- The integer zero, as a float, is zero. -/
theorem zero_word : (FloatOps.sitofp (F := Ideal) .f32 0#32 : EReal) = 0 := by
  show (((0#32 : BitVec 32).toInt : ℝ) : EReal) = 0
  simp

/-- One tap of a convolution, over the channels. -/
def tap {C H : ℕ} (s : ℕ) (w : Fin C → Fin 3 → Fin 3 → EReal) (X : Fin C → Fin H → Fin H → EReal) (y x : ℕ) (ky kx : Fin 3) : EReal :=
  ∑ i : Fin C, padded (X i) (s * y + ky.val) (s * x + kx.val) * w i ky kx

/-- A convolution is the sum of its nine taps, from the first to the last. -/
theorem conv_taps {C H : ℕ} (s : ℕ) (w : Fin C → Fin 3 → Fin 3 → EReal) (X : Fin C → Fin H → Fin H → EReal) (y x : ℕ) :
    0 + tap s w X y x 0 0 + tap s w X y x 0 1 + tap s w X y x 0 2 + tap s w X y x 1 0 + tap s w X y x 1 1 + tap s w X y x 1 2
      + tap s w X y x 2 0 + tap s w X y x 2 1 + tap s w X y x 2 2 = conv s w X y x := by
  have h : ∀ t : Fin 9, (∑ i : Fin C, w i ⟨t.val / 3, by omega⟩ ⟨t.val % 3, by omega⟩
      * padded (X i) (s * y + t.val / 3) (s * x + t.val % 3)) = tap s w X y x ⟨t.val / 3, by omega⟩ ⟨t.val % 3, by omega⟩ :=
    fun t => Finset.sum_congr rfl fun i _ => mul_comm _ _
  unfold conv
  rw [Finset.sum_congr rfl fun t _ => h t]
  simp only [Fin.sum_univ_castSucc, Finset.univ_eq_empty, Finset.sum_empty]
  rfl

end Cert.Moe
-- ==== Proof.Host.lean ====
/- What the host's operations between the launches leave, element by element: layout only, and borders of zeros. -/
module

public import proofs.«01_k».proof.Proof.Gen.KernelIdeal.Frame
public import Idealize.ShloMosaic.Lib.Pipeline.ValueKit
public import proofs.«01_k».proof.Proof.Border

@[expose] public section

set_option maxRecDepth 16384

noncomputable section

open Idealize.ShloMosaic Idealize.ShloMosaic.TcCoe Idealize.SL.Sem
open Idealize.ShloMosaic.Pipeline (Dat)

namespace Cert.Moe
open Cert.KernelIdeal Cert.KernelIdeal.Gen
open Idealize.ShloMosaic.StableHlo

variable (U : Valuation τ sig (Elt Ideal))

/-! ## Before the first launch -/

/-- The first convolution's weights, one row per output channel. -/
theorem host_v1 (o : Fin 16) (k : Fin 27) : (after hostOps0 U (Proc.devRef .tc main_v1) : FVec Ideal S16x27 .f32) (ix2 o k)
    = (U (Proc.devRef .tc main_arg1) : FVec Ideal S16x3x3x3 .f32)
        (ix4 o ⟨k.val % 3, by omega⟩ ⟨k.val / 9, by omega⟩ ⟨k.val / 3 % 3, by omega⟩) := by
  after_results
  pointwise
  blk_ext

/-- The experts' weights, one row per expert and output channel. -/
theorem host_v3 (r : Fin 64) (k : Fin 144) : (after hostOps0 U (Proc.devRef .tc main_v3) : FVec Ideal S64x144 .f32) (ix2 r k)
    = (U (Proc.devRef .tc main_arg3) : FVec Ideal S4x16x16x3x3 .f32)
        (ix5 ⟨r.val / 16, by omega⟩ ⟨r.val % 16, by omega⟩ ⟨k.val % 16, by omega⟩ ⟨k.val / 48, by omega⟩ ⟨k.val / 16 % 3, by omega⟩) := by
  after_results
  pointwise
  blk_ext

/-- The last convolution's weights. -/
theorem host_v5 (o : Fin 8) (k : Fin 144) : (after hostOps0 U (Proc.devRef .tc main_v5) : FVec Ideal S8x144 .f32) (ix2 o k)
    = (U (Proc.devRef .tc main_arg5) : FVec Ideal S8x16x3x3 .f32)
        (ix4 o ⟨k.val % 16, by omega⟩ ⟨k.val / 48, by omega⟩ ⟨k.val / 16 % 3, by omega⟩) := by
  after_results
  pointwise
  blk_ext

/-- The gate's weights stand in the first four of eight rows. -/
theorem host_v6 (e : Fin 4) (d : Fin 4096) :
    (after hostOps0_1 U (Proc.devRef .tc main_v6) : FVec Ideal S8x4096 .f32) (ix2 ⟨e.val, by omega⟩ d)
    = (U (Proc.devRef .tc main_arg11) : FVec Ideal S4x4096 .f32) (ix2 e d) := by
  after_results
  have h : ∀ (X : FVec Ideal S4x4096 .f32) (v : FVec Ideal S_ .f32),
      pad S8x4096 ![0, 0] ![4, 0] ![0, 0] X v pads_S4x4096_S8x4096_040_000 h_S_ (ix2 ⟨e.val, by omega⟩ d) = X (ix2 e d) := by
    intro X v
    pointwise
  exact h _ _

/-- The gate's biases likewise. -/
theorem host_v7 (e : Fin 4) : (after hostOps0_3 U (Proc.devRef .tc main_v7) : FVec Ideal S8 .f32) (ix1 ⟨e.val, by omega⟩)
    = (U (Proc.devRef .tc main_arg12) : FVec Ideal S4 .f32) (ix1 e) := by
  after_results
  have h : ∀ (X : FVec Ideal S4 .f32) (v : FVec Ideal S_ .f32),
      pad S8 ![0] ![4] ![0] X v pads_S4_S8_040 h_S_ (ix1 ⟨e.val, by omega⟩) = X (ix1 e) := by
    intro X v
    pointwise
  exact h _ _

/-- The padded biases as a column. -/
theorem host_v8 (r : Fin 8) : (after hostOps0_4 U (Proc.devRef .tc main_v8) : FVec Ideal S8x1 .f32) (ix2 r 0)
    = (U (Proc.devRef .tc main_v7) : FVec Ideal S8 .f32) (ix1 r) := by
  after_results
  pointwise

/-- The last linear map's weights stand in the first ten of sixteen rows. -/
theorem host_v9 (r : Fin 10) (k : Fin 16) :
    (after hostOps0_5 U (Proc.devRef .tc main_v9) : FVec Ideal S16x16 .f32) (ix2 ⟨r.val, by omega⟩ k)
    = (U (Proc.devRef .tc main_arg9) : FVec Ideal S10x16 .f32) (ix2 r k) := by
  after_results
  have h : ∀ (X : FVec Ideal S10x16 .f32) (v : FVec Ideal S_ .f32),
      pad S16x16 ![0, 0] ![6, 0] ![0, 0] X v pads_S10x16_S16x16_060_000 h_S_ (ix2 ⟨r.val, by omega⟩ k) = X (ix2 r k) := by
    intro X v
    pointwise
  exact h _ _

/-- Its biases likewise. -/
theorem host_v10 (r : Fin 10) : (after hostOps0_7 U (Proc.devRef .tc main_v10) : FVec Ideal S16 .f32) (ix1 ⟨r.val, by omega⟩)
    = (U (Proc.devRef .tc main_arg10) : FVec Ideal S10 .f32) (ix1 r) := by
  after_results
  have h : ∀ (X : FVec Ideal S10 .f32) (v : FVec Ideal S_ .f32),
      pad S16 ![0] ![6] ![0] X v pads_S10_S16_060 h_S_ (ix1 ⟨r.val, by omega⟩) = X (ix1 r) := by
    intro X v
    pointwise
  exact h _ _

/-- Those biases as a column. -/
theorem host_v11 (r : Fin 16) : (after hostOps0_8 U (Proc.devRef .tc main_v11) : FVec Ideal S16x1 .f32) (ix2 r 0)
    = (U (Proc.devRef .tc main_v10) : FVec Ideal S16 .f32) (ix1 r) := by
  after_results
  pointwise

/-- The linear map's bias as a column. -/
theorem host_v12 (k : Fin 4096) : (after hostOps0_8 U (Proc.devRef .tc main_v12) : FVec Ideal S4096x1 .f32) (ix2 k 0)
    = (U (Proc.devRef .tc main_arg14) : FVec Ideal S4096 .f32) (ix1 k) := by
  after_results
  pointwise

/-- The images with the image index last. -/
theorem host_v13 (i : Fin 3) (y x : Fin 32) (b : Fin 256) :
    (after hostOps0_8 U (Proc.devRef .tc main_v13) : FVec Ideal S3x32x32x256 .f32) (ix4 i y x b)
    = (U (Proc.devRef .tc main_arg0) : FVec Ideal S256x3x32x32 .f32) (ix4 b i y x) := by
  after_results
  pointwise

/-- The border's value is the integer zero. -/
theorem host_c3 : (after hostOps0_8 U (Proc.devRef .tc main_c_3) : IVec S_ 32) = fun _ => 0#32 := by
  after_results
  rfl

/-- The images with a border of zeros. -/
theorem host_v14 (h : (U (Proc.devRef .tc main_c_3) : IVec S_ 32) = fun _ => 0#32) (i : Fin 3) (Y Z : Fin 34) (b : Fin 256) :
    (after hostOps0_9 U (Proc.devRef .tc main_v14) : FVec Ideal S3x34x34x256 .f32) (ix4 i Y Z b)
    = padded (fun y x => (U (Proc.devRef .tc main_v13) : FVec Ideal S3x32x32x256 .f32) (ix4 i y x b)) Y.val Z.val := by
  after_results
  have e : ∀ (X : FVec Ideal S3x32x32x256 .f32) (w : IVec S_ 32), w = (fun _ => 0#32) →
      pad S3x34x34x256 ![0, 1, 1, 0] ![0, 1, 1, 0] ![0, 0, 0, 0] X (sitofp .f32 w) pads_S3x32x32x256_S3x34x34x256_000_110_110_000 h_S_
        (ix4 i Y Z b) = padded (fun y x => X (ix4 i y x b)) Y.val Z.val := by
    intro X w hw
    rw [hw]
    pointwise
    exact padded_of (fun y x => X (ix4 i y x b)) Y.val Z.val _ zero_word
  exact e _ _ h

set_option maxHeartbeats 2000000 in
/-- The nine shifted copies of the bordered images, every second row and column, stacked tap by tap. -/
theorem host_v25 (k : Fin 27) (q : Fin 65536) : (after hostOps0_10 U (Proc.devRef .tc main_v25) : FVec Ideal S27x65536 .f32) (ix2 k q)
    = (U (Proc.devRef .tc main_v14) : FVec Ideal S3x34x34x256 .f32) (ix4 ⟨k.val % 3, by omega⟩ ⟨2 * (q.val / 4096) + k.val / 9, by omega⟩
        ⟨2 * (q.val / 256 % 16) + k.val / 3 % 3, by omega⟩ ⟨q.val % 256, by omega⟩) := by
  after_results
  pointwise
  after_results_simp
  pointwise
  split_ifs <;> blk_ext

/-- The first convolution's bias as a column. -/
theorem host_v26 (o : Fin 16) : (after hostOps0_10 U (Proc.devRef .tc main_v26) : FVec Ideal S16x1 .f32) (ix2 o 0)
    = (U (Proc.devRef .tc main_arg2) : FVec Ideal S16 .f32) (ix1 o) := by
  after_results
  pointwise

/-! ## Between the launches -/

/-- The state as 4096 rows, from the columns of the first launch. -/
theorem host_v28 (d : Fin 4096) (b : Fin 256) : (after hostOps1 U (Proc.devRef .tc main_v28) : FVec Ideal S4096x256 .f32) (ix2 d b)
    = (U (Proc.devRef .tc main_v27) : FVec Ideal S16x65536 .f32)
        (ix2 ⟨d.val / 256, by omega⟩ ⟨d.val % 256 * 256 + b.val, by omega⟩) := by
  after_results
  pointwise
  blk_ext

/-- The first logits, image by image. -/
theorem host_v31 (b : Fin 256) (e : Fin 4) : (after hostOps2 U (Proc.devRef .tc main_v31) : FVec Ideal S256x4 .f32) (ix2 b e)
    = (U (Proc.devRef .tc main_v29) : FVec Ideal S8x256 .f32) (ix2 ⟨e.val + 4, by omega⟩ b) := by
  after_results
  pointwise
  blk_ext

/-- The state as channels of rows and columns. -/
theorem host_v32 (i y x : Fin 16) (b : Fin 256) :
    (after hostOps2 U (Proc.devRef .tc main_v32) : FVec Ideal S16x16x16x256 .f32) (ix4 i y x b)
    = (U (Proc.devRef .tc main_v28) : FVec Ideal S4096x256 .f32) (ix2 ⟨i.val * 256 + y.val * 16 + x.val, by omega⟩ b) := by
  after_results
  pointwise
  blk_ext

/-- The border's value is the integer zero. -/
theorem host_c4 : (after hostOps2 U (Proc.devRef .tc main_c_4) : IVec S_ 32) = fun _ => 0#32 := by
  after_results
  rfl

/-- A state with a border of zeros. -/
theorem pad_state (X : FVec Ideal S16x16x16x256 .f32) (w : IVec S_ 32) (hw : w = fun _ => 0#32) (i : Fin 16) (Y Z : Fin 18)
    (b : Fin 256) :
    pad S16x18x18x256 ![0, 1, 1, 0] ![0, 1, 1, 0] ![0, 0, 0, 0] X (sitofp .f32 w) pads_S16x16x16x256_S16x18x18x256_000_110_110_000 h_S_
      (ix4 i Y Z b) = padded (fun y x => X (ix4 i y x b)) Y.val Z.val := by
  rw [hw]
  pointwise
  exact padded_of (fun y x => X (ix4 i y x b)) Y.val Z.val _ zero_word

/-- The first layer's state with its border. -/
theorem host_v33 (h : (U (Proc.devRef .tc main_c_4) : IVec S_ 32) = fun _ => 0#32) (i : Fin 16) (Y Z : Fin 18) (b : Fin 256) :
    (after hostOps2_1 U (Proc.devRef .tc main_v33) : FVec Ideal S16x18x18x256 .f32) (ix4 i Y Z b)
    = padded (fun y x => (U (Proc.devRef .tc main_v32) : FVec Ideal S16x16x16x256 .f32) (ix4 i y x b)) Y.val Z.val := by
  after_results
  exact pad_state _ _ h i Y Z b

/-- The experts' biases as a column. -/
theorem host_v34 (r : Fin 64) : (after hostOps2_2 U (Proc.devRef .tc main_v34) : FVec Ideal S64x1 .f32) (ix2 r 0)
    = (U (Proc.devRef .tc main_arg4) : FVec Ideal S4x16 .f32) (ix2 ⟨r.val / 16, by omega⟩ ⟨r.val % 16, by omega⟩) := by
  after_results
  pointwise
  blk_ext

/-- The mixture as 4096 rows, from the columns of the first expert launch. -/
theorem host_v36 (d : Fin 4096) (b : Fin 256) : (after hostOps3 U (Proc.devRef .tc main_v36) : FVec Ideal S4096x256 .f32) (ix2 d b)
    = (U (Proc.devRef .tc main_v35) : FVec Ideal S16x65536 .f32)
        (ix2 ⟨d.val / 256, by omega⟩ ⟨d.val % 256 * 256 + b.val, by omega⟩) := by
  after_results
  pointwise
  blk_ext

/-- The second logits, image by image. -/
theorem host_v40 (b : Fin 256) (e : Fin 4) : (after hostOps5 U (Proc.devRef .tc main_v40) : FVec Ideal S256x4 .f32) (ix2 b e)
    = (U (Proc.devRef .tc main_v38) : FVec Ideal S8x256 .f32) (ix2 ⟨e.val + 4, by omega⟩ b) := by
  after_results
  pointwise
  blk_ext

/-- The second layer's state as channels of rows and columns. -/
theorem host_v41 (i y x : Fin 16) (b : Fin 256) :
    (after hostOps5 U (Proc.devRef .tc main_v41) : FVec Ideal S16x16x16x256 .f32) (ix4 i y x b)
    = (U (Proc.devRef .tc main_v37) : FVec Ideal S4096x256 .f32) (ix2 ⟨i.val * 256 + y.val * 16 + x.val, by omega⟩ b) := by
  after_results
  pointwise
  blk_ext

/-- The border's value is the integer zero. -/
theorem host_c5 : (after hostOps5 U (Proc.devRef .tc main_c_5) : IVec S_ 32) = fun _ => 0#32 := by
  after_results
  rfl

/-- The second layer's state with its border. -/
theorem host_v42 (h : (U (Proc.devRef .tc main_c_5) : IVec S_ 32) = fun _ => 0#32) (i : Fin 16) (Y Z : Fin 18) (b : Fin 256) :
    (after hostOps5_1 U (Proc.devRef .tc main_v42) : FVec Ideal S16x18x18x256 .f32) (ix4 i Y Z b)
    = padded (fun y x => (U (Proc.devRef .tc main_v41) : FVec Ideal S16x16x16x256 .f32) (ix4 i y x b)) Y.val Z.val := by
  after_results
  exact pad_state _ _ h i Y Z b

/-- The experts' biases as a column, again. -/
theorem host_v43 (r : Fin 64) : (after hostOps5_2 U (Proc.devRef .tc main_v43) : FVec Ideal S64x1 .f32) (ix2 r 0)
    = (U (Proc.devRef .tc main_arg4) : FVec Ideal S4x16 .f32) (ix2 ⟨r.val / 16, by omega⟩ ⟨r.val % 16, by omega⟩) := by
  after_results
  pointwise
  blk_ext

/-- The second mixture as 4096 rows. -/
theorem host_v45 (d : Fin 4096) (b : Fin 256) : (after hostOps6 U (Proc.devRef .tc main_v45) : FVec Ideal S4096x256 .f32) (ix2 d b)
    = (U (Proc.devRef .tc main_v44) : FVec Ideal S16x65536 .f32)
        (ix2 ⟨d.val / 256, by omega⟩ ⟨d.val % 256 * 256 + b.val, by omega⟩) := by
  after_results
  pointwise
  blk_ext

/-! ## Before and after the last launch -/

/-- The last state as channels of rows and columns. -/
theorem host_v47 (i y x : Fin 16) (b : Fin 256) :
    (after hostOps7 U (Proc.devRef .tc main_v47) : FVec Ideal S16x16x16x256 .f32) (ix4 i y x b)
    = (U (Proc.devRef .tc main_v46) : FVec Ideal S4096x256 .f32) (ix2 ⟨i.val * 256 + y.val * 16 + x.val, by omega⟩ b) := by
  after_results
  pointwise
  blk_ext

/-- The border's value is the integer zero. -/
theorem host_c6 : (after hostOps7 U (Proc.devRef .tc main_c_6) : IVec S_ 32) = fun _ => 0#32 := by
  after_results
  rfl

/-- The last state with its border. -/
theorem host_v48 (h : (U (Proc.devRef .tc main_c_6) : IVec S_ 32) = fun _ => 0#32) (i : Fin 16) (Y Z : Fin 18) (b : Fin 256) :
    (after hostOps7_1 U (Proc.devRef .tc main_v48) : FVec Ideal S16x18x18x256 .f32) (ix4 i Y Z b)
    = padded (fun y x => (U (Proc.devRef .tc main_v47) : FVec Ideal S16x16x16x256 .f32) (ix4 i y x b)) Y.val Z.val := by
  after_results
  exact pad_state _ _ h i Y Z b

set_option maxHeartbeats 2000000 in
/-- The nine shifted copies of the bordered state, every second row and column, stacked tap by tap; the columns of one
    two-by-two cell stand in four consecutive groups. -/
theorem host_v61 (k : Fin 144) (q : Fin 16384) : (after hostOps7_2 U (Proc.devRef .tc main_v61) : FVec Ideal S144x16384 .f32) (ix2 k q)
    = (U (Proc.devRef .tc main_v48) : FVec Ideal S16x18x18x256 .f32) (ix4 ⟨k.val % 16, by omega⟩
        ⟨2 * (2 * (q.val / 4096) + q.val / 512 % 2) + k.val / 48, by omega⟩
        ⟨2 * (2 * (q.val / 1024 % 4) + q.val / 256 % 2) + k.val / 16 % 3, by omega⟩ ⟨q.val % 256, by omega⟩) := by
  after_results
  pointwise
  after_results_simp
  pointwise
  split_ifs <;> blk_ext

/-- The last convolution's bias as a column. -/
theorem host_v62 (o : Fin 8) : (after hostOps7_2 U (Proc.devRef .tc main_v62) : FVec Ideal S8x1 .f32) (ix2 o 0)
    = (U (Proc.devRef .tc main_arg6) : FVec Ideal S8 .f32) (ix1 o) := by
  after_results
  pointwise

/-- The first tail map's bias as a column. -/
theorem host_v63 (r : Fin 16) : (after hostOps7_2 U (Proc.devRef .tc main_v63) : FVec Ideal S16x1 .f32) (ix2 r 0)
    = (U (Proc.devRef .tc main_arg8) : FVec Ideal S16 .f32) (ix1 r) := by
  after_results
  pointwise

/-- The scores, image by image. -/
theorem host_v66 (b : Fin 256) (r : Fin 10) : (after hostOps8 U (Proc.devRef .tc main_v66) : FVec Ideal S256x10 .f32) (ix2 b r)
    = (U (Proc.devRef .tc main_v64) : FVec Ideal S16x256 .f32) (ix2 ⟨r.val, by omega⟩ b) := by
  after_results
  pointwise

end Cert.Moe
-- ==== Proof.Chain.lean ====
/- The kernel's arrays at each boundary between launches, followed from the arguments to the three results. -/
module

public import proofs.«01_k».proof.Proof.Gen.KernelIdeal.Frame
public import Idealize.ShloMosaic.Lib.Pipeline.ValueKit
public import proofs.«01_k».proof.Proof.Params
public import proofs.«01_k».proof.Proof.Columns
public import proofs.«01_k».proof.Proof.Host
@[expose] public section

set_option maxRecDepth 16384

noncomputable section

open Idealize.ShloMosaic Idealize.ShloMosaic.TcCoe Idealize.SL.Sem
open Idealize.ShloMosaic.Pipeline (Dat)

namespace Cert.Moe
open Cert.KernelIdeal Cert.KernelIdeal.Gen
open Idealize.ShloMosaic.StableHlo

variable (m : (ℓ : Loc nD τ sig) → Buf (Elt Ideal) ℓ) (ρ : Dev nD → PrngReg) (c : Dev nD)

/-- The parameters in memory. -/
abbrev prm : Params :=
  params (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10)) (m ((c : Thread nD τ).loc main_arg11)) (m ((c : Thread nD τ).loc main_arg12))
    (m ((c : Thread nD τ).loc main_arg13)) (m ((c : Thread nD τ).loc main_arg14))

/-- The images in memory. -/
abbrev img : Fin 256 → Fin 3 → Fin 32 → Fin 32 → EReal := images (m ((c : Thread nD τ).loc main_arg0))

/-! ## What stays across the launches -/

/-- The arrays that the host prepares before the first launch and that later launches read. -/
abbrev kept : List (Ref sig .tc) := [main_v1, main_v3, main_v5, main_v6, main_v8, main_v9, main_v11, main_v12]

/-- They stay until the first gate launch, -/
theorem keep13 (r : Ref sig .tc) (h : r ∈ kept) : W13 m ρ c (Proc.devRef .tc r) = W11 m ρ c (Proc.devRef .tc r) := by
  rw [W13_of m ρ c r ((show ∀ r ∈ kept, r ∉ hostOps1_W from ListAll.forall_mem_of_all_decide (by decide +kernel)) r h),
    W12_of m ρ c r ((show ∀ r ∈ kept, ∀ w : Fin cfg0.W, Pipeline.arrRef spec0 w = r → (cfg0.win w).isOut = false from
      ListAll.forall_mem_of_all_decide (by decide +kernel)) r h)]

/-- until the first expert launch, -/
theorem keep17 (r : Ref sig .tc) (h : r ∈ kept) : W17 m ρ c (Proc.devRef .tc r) = W11 m ρ c (Proc.devRef .tc r) := by
  rw [W17_of m ρ c r ((show ∀ r ∈ kept, r ∉ hostOps2_2_W from ListAll.forall_mem_of_all_decide (by decide +kernel)) r h),
    W16_of m ρ c r ((show ∀ r ∈ kept, r ∉ hostOps2_1_W from ListAll.forall_mem_of_all_decide (by decide +kernel)) r h),
    W15_of m ρ c r ((show ∀ r ∈ kept, r ∉ hostOps2_W from ListAll.forall_mem_of_all_decide (by decide +kernel)) r h),
    W14_of m ρ c r ((show ∀ r ∈ kept, ∀ w : Fin cfg1.W, Pipeline.arrRef spec1 w = r → (cfg1.win w).isOut = false from
      ListAll.forall_mem_of_all_decide (by decide +kernel)) r h), keep13 m ρ c r h]

/-- until the first dense launch, -/
theorem keep19 (r : Ref sig .tc) (h : r ∈ kept) : W19 m ρ c (Proc.devRef .tc r) = W11 m ρ c (Proc.devRef .tc r) := by
  rw [W19_of m ρ c r ((show ∀ r ∈ kept, r ∉ hostOps3_W from ListAll.forall_mem_of_all_decide (by decide +kernel)) r h),
    W18_of m ρ c r ((show ∀ r ∈ kept, ∀ w : Fin cfg2.W, Pipeline.arrRef spec2 w = r → (cfg2.win w).isOut = false from
      ListAll.forall_mem_of_all_decide (by decide +kernel)) r h), keep17 m ρ c r h]

/-- until the second gate launch, -/
theorem keep20 (r : Ref sig .tc) (h : r ∈ kept) : W20 m ρ c (Proc.devRef .tc r) = W11 m ρ c (Proc.devRef .tc r) := by
  rw [W20_of m ρ c r ((show ∀ r ∈ kept, ∀ w : Fin cfg3.W, Pipeline.arrRef spec3 w = r → (cfg3.win w).isOut = false from
      ListAll.forall_mem_of_all_decide (by decide +kernel)) r h), keep19 m ρ c r h]

/-- until the second expert launch, -/
theorem keep24 (r : Ref sig .tc) (h : r ∈ kept) : W24 m ρ c (Proc.devRef .tc r) = W11 m ρ c (Proc.devRef .tc r) := by
  rw [W24_of m ρ c r ((show ∀ r ∈ kept, r ∉ hostOps5_2_W from ListAll.forall_mem_of_all_decide (by decide +kernel)) r h),
    W23_of m ρ c r ((show ∀ r ∈ kept, r ∉ hostOps5_1_W from ListAll.forall_mem_of_all_decide (by decide +kernel)) r h),
    W22_of m ρ c r ((show ∀ r ∈ kept, r ∉ hostOps5_W from ListAll.forall_mem_of_all_decide (by decide +kernel)) r h),
    W21_of m ρ c r ((show ∀ r ∈ kept, ∀ w : Fin cfg4.W, Pipeline.arrRef spec4 w = r → (cfg4.win w).isOut = false from
      ListAll.forall_mem_of_all_decide (by decide +kernel)) r h), keep20 m ρ c r h]

/-- until the second dense launch, -/
theorem keep26 (r : Ref sig .tc) (h : r ∈ kept) : W26 m ρ c (Proc.devRef .tc r) = W11 m ρ c (Proc.devRef .tc r) := by
  rw [W26_of m ρ c r ((show ∀ r ∈ kept, r ∉ hostOps6_W from ListAll.forall_mem_of_all_decide (by decide +kernel)) r h),
    W25_of m ρ c r ((show ∀ r ∈ kept, ∀ w : Fin cfg5.W, Pipeline.arrRef spec5 w = r → (cfg5.win w).isOut = false from
      ListAll.forall_mem_of_all_decide (by decide +kernel)) r h), keep24 m ρ c r h]

/-- and until the last launch. -/
theorem keep30 (r : Ref sig .tc) (h : r ∈ kept) : W30 m ρ c (Proc.devRef .tc r) = W11 m ρ c (Proc.devRef .tc r) := by
  rw [W30_of m ρ c r ((show ∀ r ∈ kept, r ∉ hostOps7_2_W from ListAll.forall_mem_of_all_decide (by decide +kernel)) r h),
    W29_of m ρ c r ((show ∀ r ∈ kept, r ∉ hostOps7_1_W from ListAll.forall_mem_of_all_decide (by decide +kernel)) r h),
    W28_of m ρ c r ((show ∀ r ∈ kept, r ∉ hostOps7_W from ListAll.forall_mem_of_all_decide (by decide +kernel)) r h),
    W27_of m ρ c r ((show ∀ r ∈ kept, ∀ w : Fin cfg6.W, Pipeline.arrRef spec6 w = r → (cfg6.win w).isOut = false from
      ListAll.forall_mem_of_all_decide (by decide +kernel)) r h), keep26 m ρ c r h]

/-! ## What the host prepares -/

/-- The first convolution's weights. -/
theorem at_v1 (o : Fin 16) (k : Fin 27) : (W11 m ρ c (Proc.devRef .tc main_v1) : FVec Ideal S16x27 .f32) (ix2 o k)
    = (prm m c).W1 o ⟨k.val % 3, by omega⟩ ⟨k.val / 9, by omega⟩ ⟨k.val / 3 % 3, by omega⟩ := by
  have e : W11 m ρ c (Proc.devRef .tc main_v1) = W1 m ρ c (Proc.devRef .tc main_v1) := by
    rw [W11_of m ρ c main_v1 (by decide), W10_of m ρ c main_v1 (by decide), W9_of m ρ c main_v1 (by decide),
      W8_of m ρ c main_v1 (by decide), W7_of m ρ c main_v1 (by decide), W6_of m ρ c main_v1 (by decide),
      W5_of m ρ c main_v1 (by decide), W4_of m ρ c main_v1 (by decide), W3_of m ρ c main_v1 (by decide),
      W2_of m ρ c main_v1 (by decide)]
  exact (congrFun e _).trans (host_v1 (W0 m ρ c) o k)

/-- The experts' weights. -/
theorem at_v3 (r : Fin 64) (k : Fin 144) : (W11 m ρ c (Proc.devRef .tc main_v3) : FVec Ideal S64x144 .f32) (ix2 r k)
    = (prm m c).We ⟨r.val / 16, by omega⟩ ⟨r.val % 16, by omega⟩ ⟨k.val % 16, by omega⟩ ⟨k.val / 48, by omega⟩
        ⟨k.val / 16 % 3, by omega⟩ := by
  have e : W11 m ρ c (Proc.devRef .tc main_v3) = W1 m ρ c (Proc.devRef .tc main_v3) := by
    rw [W11_of m ρ c main_v3 (by decide), W10_of m ρ c main_v3 (by decide), W9_of m ρ c main_v3 (by decide),
      W8_of m ρ c main_v3 (by decide), W7_of m ρ c main_v3 (by decide), W6_of m ρ c main_v3 (by decide),
      W5_of m ρ c main_v3 (by decide), W4_of m ρ c main_v3 (by decide), W3_of m ρ c main_v3 (by decide),
      W2_of m ρ c main_v3 (by decide)]
  exact (congrFun e _).trans (host_v3 (W0 m ρ c) r k)

/-- The last convolution's weights. -/
theorem at_v5 (o : Fin 8) (k : Fin 144) : (W11 m ρ c (Proc.devRef .tc main_v5) : FVec Ideal S8x144 .f32) (ix2 o k)
    = (prm m c).Wl o ⟨k.val % 16, by omega⟩ ⟨k.val / 48, by omega⟩ ⟨k.val / 16 % 3, by omega⟩ := by
  have e : W11 m ρ c (Proc.devRef .tc main_v5) = W1 m ρ c (Proc.devRef .tc main_v5) := by
    rw [W11_of m ρ c main_v5 (by decide), W10_of m ρ c main_v5 (by decide), W9_of m ρ c main_v5 (by decide),
      W8_of m ρ c main_v5 (by decide), W7_of m ρ c main_v5 (by decide), W6_of m ρ c main_v5 (by decide),
      W5_of m ρ c main_v5 (by decide), W4_of m ρ c main_v5 (by decide), W3_of m ρ c main_v5 (by decide),
      W2_of m ρ c main_v5 (by decide)]
  exact (congrFun e _).trans (host_v5 (W0 m ρ c) o k)

/-- The gate's weights. -/
theorem at_v6 (e : Fin 4) (d : Fin 4096) : (W11 m ρ c (Proc.devRef .tc main_v6) : FVec Ideal S8x4096 .f32) (ix2 ⟨e.val, by omega⟩ d)
    = (prm m c).G e d := by
  have h : W11 m ρ c (Proc.devRef .tc main_v6) = W2 m ρ c (Proc.devRef .tc main_v6) := by
    rw [W11_of m ρ c main_v6 (by decide), W10_of m ρ c main_v6 (by decide), W9_of m ρ c main_v6 (by decide),
      W8_of m ρ c main_v6 (by decide), W7_of m ρ c main_v6 (by decide), W6_of m ρ c main_v6 (by decide),
      W5_of m ρ c main_v6 (by decide), W4_of m ρ c main_v6 (by decide), W3_of m ρ c main_v6 (by decide)]
  exact (congrFun h _).trans ((host_v6 (W1 m ρ c) e d).trans (congrFun (W1_args m ρ c main_arg11 (by decide)) _))

/-- The gate's biases. -/
theorem at_v8 (e : Fin 4) : (W11 m ρ c (Proc.devRef .tc main_v8) : FVec Ideal S8x1 .f32) (ix2 ⟨e.val, by omega⟩ 0)
    = (prm m c).g e := by
  have h : W11 m ρ c (Proc.devRef .tc main_v8) = W5 m ρ c (Proc.devRef .tc main_v8) := by
    rw [W11_of m ρ c main_v8 (by decide), W10_of m ρ c main_v8 (by decide), W9_of m ρ c main_v8 (by decide),
      W8_of m ρ c main_v8 (by decide), W7_of m ρ c main_v8 (by decide), W6_of m ρ c main_v8 (by decide)]
  exact (congrFun h _).trans ((host_v8 (W4 m ρ c) _).trans ((host_v7 (W3 m ρ c) e).trans
    (congrFun (W3_args m ρ c main_arg12 (by decide)) _)))

/-- The last linear map's weights. -/
theorem at_v9 (r : Fin 10) (k : Fin 16) : (W11 m ρ c (Proc.devRef .tc main_v9) : FVec Ideal S16x16 .f32) (ix2 ⟨r.val, by omega⟩ k)
    = (prm m c).B r k := by
  have h : W11 m ρ c (Proc.devRef .tc main_v9) = W6 m ρ c (Proc.devRef .tc main_v9) := by
    rw [W11_of m ρ c main_v9 (by decide), W10_of m ρ c main_v9 (by decide), W9_of m ρ c main_v9 (by decide),
      W8_of m ρ c main_v9 (by decide), W7_of m ρ c main_v9 (by decide)]
  exact (congrFun h _).trans ((host_v9 (W5 m ρ c) r k).trans (congrFun (W5_args m ρ c main_arg9 (by decide)) _))

/-- Its biases. -/
theorem at_v11 (r : Fin 10) : (W11 m ρ c (Proc.devRef .tc main_v11) : FVec Ideal S16x1 .f32) (ix2 ⟨r.val, by omega⟩ 0)
    = (prm m c).d r := by
  have h : W11 m ρ c (Proc.devRef .tc main_v11) = W9 m ρ c (Proc.devRef .tc main_v11) := by
    rw [W11_of m ρ c main_v11 (by decide), W10_of m ρ c main_v11 (by decide)]
  exact (congrFun h _).trans ((host_v11 (W8 m ρ c) _).trans ((host_v10 (W7 m ρ c) r).trans
    (congrFun (W7_args m ρ c main_arg10 (by decide)) _)))

/-- The linear map's biases. -/
theorem at_v12 (k : Fin 4096) : (W11 m ρ c (Proc.devRef .tc main_v12) : FVec Ideal S4096x1 .f32) (ix2 k 0) = (prm m c).t k := by
  have h : W11 m ρ c (Proc.devRef .tc main_v12) = W9 m ρ c (Proc.devRef .tc main_v12) := by
    rw [W11_of m ρ c main_v12 (by decide), W10_of m ρ c main_v12 (by decide)]
  exact (congrFun h _).trans ((host_v12 (W8 m ρ c) k).trans (congrFun (W8_args m ρ c main_arg14 (by decide)) _))

/-- The first convolution's columns. -/
theorem at_v25 (k : Fin 27) (q : Fin 65536) : (W11 m ρ c (Proc.devRef .tc main_v25) : FVec Ideal S27x65536 .f32) (ix2 k q)
    = padded (img m c ⟨q.val % 256, by omega⟩ ⟨k.val % 3, by omega⟩) (2 * (q.val / 4096) + k.val / 9)
        (2 * (q.val / 256 % 16) + k.val / 3 % 3) :=
  (host_v25 (W10 m ρ c) k q).trans ((host_v14 (W9 m ρ c) (host_c3 (W8 m ρ c)) _ _ _ _).trans
    (congrArg (fun f => padded f _ _) (funext fun y => funext fun x => (host_v13 (W8 m ρ c) _ y x _).trans
      (congrFun (W8_args m ρ c main_arg0 (by decide)) _))))

/-- The first convolution's bias. -/
theorem at_v26 (o : Fin 16) : (W11 m ρ c (Proc.devRef .tc main_v26) : FVec Ideal S16x1 .f32) (ix2 o 0) = (prm m c).b1 o :=
  (host_v26 (W10 m ρ c) o).trans (congrFun (W10_args m ρ c main_arg2 (by decide)) _)

/-! ## The first layer -/

/-- After the first launch. -/
theorem at_v27 (d : Fin 4096) (b : Fin 256) : (W12 m ρ c (Proc.devRef .tc main_v27) : FVec Ideal S16x65536 .f32)
    (ix2 ⟨d.val / 256, by omega⟩ (placeCol ⟨d.val % 256, by omega⟩ b)) = state0 (prm m c) (img m c) b d :=
  (congrFun ((W12_arr m ρ c 3).trans (final0 (V11 m ρ) c)) _).trans
    (conv_stem (prm m c) (img m c) _ _ _ (at_v1 m ρ c) (at_v25 m ρ c) (at_v26 m ρ c) d b)

/-- The first state. -/
theorem at_v28 (d : Fin 4096) (b : Fin 256) : (W13 m ρ c (Proc.devRef .tc main_v28) : FVec Ideal S4096x256 .f32) (ix2 d b)
    = state0 (prm m c) (img m c) b d :=
  (host_v28 (W12 m ρ c) d b).trans (at_v27 m ρ c d b)

/-! ## The first gated layer -/

/-- The first gate's logits inside its launch. -/
theorem gate1 (b : Fin 256) : gateLogit (W13 m ρ c (Proc.devRef .tc main_v28)) (W13 m ρ c (Proc.devRef .tc main_v6))
    (W13 m ρ c (Proc.devRef .tc main_v8)) b = logit (prm m c) (state0 (prm m c) (img m c) b) :=
  gate_logit (prm m c) (state0 (prm m c) (img m c)) _ _ _ (at_v28 m ρ c)
    (fun e d => (congrFun (keep13 m ρ c main_v6 (by decide)) _).trans (at_v6 m ρ c e d))
    (fun e => (congrFun (keep13 m ρ c main_v8 (by decide)) _).trans (at_v8 m ρ c e)) b

/-- The first logits, as the second host stretch leaves them. -/
theorem at_v31 (b : Fin 256) (e : Fin 4) : (W15 m ρ c (Proc.devRef .tc main_v31) : FVec Ideal S256x4 .f32) (ix2 b e)
    = logit (prm m c) (state0 (prm m c) (img m c) b) e :=
  (host_v31 (W14 m ρ c) b e).trans ((congrFun ((W14_arr m ρ c 3).trans (final1 (V13 m ρ) c)) _).trans
    (gate_tail (prm m c) (state0 (prm m c) (img m c)) _ _ _ (gate1 m ρ c) e b))

/-- The first weights, as the expert launch finds them. -/
theorem at_v29 (e : Fin 4) (b : Fin 256) : (W17 m ρ c (Proc.devRef .tc main_v29) : FVec Ideal S8x256 .f32) (ix2 ⟨e.val, by omega⟩ b)
    = gateW (logit (prm m c) (state0 (prm m c) (img m c) b)) e := by
  have h : W17 m ρ c (Proc.devRef .tc main_v29) = W14 m ρ c (Proc.devRef .tc main_v29) := by
    rw [W17_of m ρ c main_v29 (by decide), W16_of m ρ c main_v29 (by decide), W15_of m ρ c main_v29 (by decide)]
  exact (congrFun h _).trans ((congrFun ((W14_arr m ρ c 3).trans (final1 (V13 m ρ) c)) _).trans
    (gate_weight (prm m c) (state0 (prm m c) (img m c)) _ _ _ (gate1 m ρ c) e b))

/-- The first state with its border. -/
theorem at_v33 (i : Fin 16) (Y Z : Fin 18) (b : Fin 256) :
    (W17 m ρ c (Proc.devRef .tc main_v33) : FVec Ideal S16x18x18x256 .f32) (ix4 i Y Z b)
    = padded (plane (state0 (prm m c) (img m c) b) i) Y.val Z.val :=
  (congrFun (W17_of m ρ c main_v33 (by decide)) _).trans ((host_v33 (W15 m ρ c) (host_c4 (W14 m ρ c)) i Y Z b).trans
    (congrArg (fun f => padded f _ _) (funext fun y => funext fun x => (host_v32 (W14 m ρ c) i y x b).trans
      ((congrFun (W14_of m ρ c main_v28 (by decide)) _).trans (at_v28 m ρ c _ b)))))

/-- The experts' biases. -/
theorem at_v34 (r : Fin 64) : (W17 m ρ c (Proc.devRef .tc main_v34) : FVec Ideal S64x1 .f32) (ix2 r 0)
    = (prm m c).be ⟨r.val / 16, by omega⟩ ⟨r.val % 16, by omega⟩ :=
  (host_v34 (W16 m ρ c) r).trans (congrFun (W16_args m ρ c main_arg4 (by decide)) _)

/-- The first mixture. -/
theorem at_v36 (d : Fin 4096) (b : Fin 256) : (W19 m ρ c (Proc.devRef .tc main_v36) : FVec Ideal S4096x256 .f32) (ix2 d b)
    = mix (prm m c) (state0 (prm m c) (img m c) b) d :=
  (host_v36 (W18 m ρ c) d b).trans ((congrFun ((W18_arr m ρ c 4).trans (final2 (V17 m ρ) c)) _).trans
    (expert_mix (prm m c) (state0 (prm m c) (img m c)) _ _ _ _ (at_v33 m ρ c)
      (fun r k => (congrFun (keep17 m ρ c main_v3 (by decide)) _).trans (at_v3 m ρ c r k)) (at_v34 m ρ c) (at_v29 m ρ c) d b))

/-- The second state. -/
theorem at_v37 (k : Fin 4096) (b : Fin 256) : (W20 m ρ c (Proc.devRef .tc main_v37) : FVec Ideal S4096x256 .f32) (ix2 k b)
    = state1 (prm m c) (img m c) b k :=
  (congrFun ((W20_arr m ρ c 3).trans (final3 (V19 m ρ) c)) _).trans
    (dense_route (prm m c) (state0 (prm m c) (img m c)) _ _ _
      (fun k d => congrFun (W19_args m ρ c main_arg13 (by decide)) _) (at_v36 m ρ c)
      (fun k => (congrFun (keep19 m ρ c main_v12 (by decide)) _).trans (at_v12 m ρ c k)) k b)

/-! ## The second gated layer -/

/-- The second gate's logits inside its launch. -/
theorem gate2 (b : Fin 256) : gateLogit (W20 m ρ c (Proc.devRef .tc main_v37)) (W20 m ρ c (Proc.devRef .tc main_v6))
    (W20 m ρ c (Proc.devRef .tc main_v8)) b = logit (prm m c) (state1 (prm m c) (img m c) b) :=
  gate_logit (prm m c) (state1 (prm m c) (img m c)) _ _ _ (at_v37 m ρ c)
    (fun e d => (congrFun (keep20 m ρ c main_v6 (by decide)) _).trans (at_v6 m ρ c e d))
    (fun e => (congrFun (keep20 m ρ c main_v8 (by decide)) _).trans (at_v8 m ρ c e)) b

/-- The second logits. -/
theorem at_v40 (b : Fin 256) (e : Fin 4) : (W22 m ρ c (Proc.devRef .tc main_v40) : FVec Ideal S256x4 .f32) (ix2 b e)
    = logit (prm m c) (state1 (prm m c) (img m c) b) e :=
  (host_v40 (W21 m ρ c) b e).trans ((congrFun ((W21_arr m ρ c 3).trans (final4 (V20 m ρ) c)) _).trans
    (gate_tail (prm m c) (state1 (prm m c) (img m c)) _ _ _ (gate2 m ρ c) e b))

/-- The second weights, as the expert launch finds them. -/
theorem at_v38 (e : Fin 4) (b : Fin 256) : (W24 m ρ c (Proc.devRef .tc main_v38) : FVec Ideal S8x256 .f32) (ix2 ⟨e.val, by omega⟩ b)
    = gateW (logit (prm m c) (state1 (prm m c) (img m c) b)) e := by
  have h : W24 m ρ c (Proc.devRef .tc main_v38) = W21 m ρ c (Proc.devRef .tc main_v38) := by
    rw [W24_of m ρ c main_v38 (by decide), W23_of m ρ c main_v38 (by decide), W22_of m ρ c main_v38 (by decide)]
  exact (congrFun h _).trans ((congrFun ((W21_arr m ρ c 3).trans (final4 (V20 m ρ) c)) _).trans
    (gate_weight (prm m c) (state1 (prm m c) (img m c)) _ _ _ (gate2 m ρ c) e b))

/-- The second state with its border. -/
theorem at_v42 (i : Fin 16) (Y Z : Fin 18) (b : Fin 256) :
    (W24 m ρ c (Proc.devRef .tc main_v42) : FVec Ideal S16x18x18x256 .f32) (ix4 i Y Z b)
    = padded (plane (state1 (prm m c) (img m c) b) i) Y.val Z.val :=
  (congrFun (W24_of m ρ c main_v42 (by decide)) _).trans ((host_v42 (W22 m ρ c) (host_c5 (W21 m ρ c)) i Y Z b).trans
    (congrArg (fun f => padded f _ _) (funext fun y => funext fun x => (host_v41 (W21 m ρ c) i y x b).trans
      ((congrFun (W21_of m ρ c main_v37 (by decide)) _).trans (at_v37 m ρ c _ b)))))

/-- The experts' biases, again. -/
theorem at_v43 (r : Fin 64) : (W24 m ρ c (Proc.devRef .tc main_v43) : FVec Ideal S64x1 .f32) (ix2 r 0)
    = (prm m c).be ⟨r.val / 16, by omega⟩ ⟨r.val % 16, by omega⟩ :=
  (host_v43 (W23 m ρ c) r).trans (congrFun (W23_args m ρ c main_arg4 (by decide)) _)

/-- The second mixture. -/
theorem at_v45 (d : Fin 4096) (b : Fin 256) : (W26 m ρ c (Proc.devRef .tc main_v45) : FVec Ideal S4096x256 .f32) (ix2 d b)
    = mix (prm m c) (state1 (prm m c) (img m c) b) d :=
  (host_v45 (W25 m ρ c) d b).trans ((congrFun ((W25_arr m ρ c 4).trans (final5 (V24 m ρ) c)) _).trans
    (expert_mix (prm m c) (state1 (prm m c) (img m c)) _ _ _ _ (at_v42 m ρ c)
      (fun r k => (congrFun (keep24 m ρ c main_v3 (by decide)) _).trans (at_v3 m ρ c r k)) (at_v43 m ρ c) (at_v38 m ρ c) d b))

/-- The last state. -/
theorem at_v46 (k : Fin 4096) (b : Fin 256) : (W27 m ρ c (Proc.devRef .tc main_v46) : FVec Ideal S4096x256 .f32) (ix2 k b)
    = state2 (prm m c) (img m c) b k :=
  (congrFun ((W27_arr m ρ c 3).trans (final6 (V26 m ρ) c)) _).trans
    (dense_route (prm m c) (state1 (prm m c) (img m c)) _ _ _
      (fun k d => congrFun (W26_args m ρ c main_arg13 (by decide)) _) (at_v45 m ρ c)
      (fun k => (congrFun (keep26 m ρ c main_v12 (by decide)) _).trans (at_v12 m ρ c k)) k b)

/-! ## The tail -/

/-- The last convolution's columns. -/
theorem at_v61 (k : Fin 144) (q : Fin 16384) : (W30 m ρ c (Proc.devRef .tc main_v61) : FVec Ideal S144x16384 .f32) (ix2 k q)
    = padded (plane (state2 (prm m c) (img m c) ⟨q.val % 256, by omega⟩) ⟨k.val % 16, by omega⟩)
      (2 * (2 * (q.val / 4096) + q.val / 512 % 2) + k.val / 48) (2 * (2 * (q.val / 1024 % 4) + q.val / 256 % 2) + k.val / 16 % 3) :=
  (host_v61 (W29 m ρ c) k q).trans ((host_v48 (W28 m ρ c) (host_c6 (W27 m ρ c)) _ _ _ _).trans
    (congrArg (fun f => padded f _ _) (funext fun y => funext fun x => (host_v47 (W27 m ρ c) _ y x _).trans
      (at_v46 m ρ c _ _))))

/-- The scores. -/
theorem at_v66 (b : Fin 256) (r : Fin 10) : (W32 m ρ c (Proc.devRef .tc main_v66) : FVec Ideal S256x10 .f32) (ix2 b r)
    = scores (prm m c) (state2 (prm m c) (img m c) b) r :=
  (host_v66 (W31 m ρ c) b r).trans ((congrFun ((W31_arr m ρ c 7).trans (final7 (V30 m ρ) c)) _).trans
    (tail_scores (prm m c) (state2 (prm m c) (img m c)) _ _ _ _ _ _ _
      (fun o p b => tail_conv (prm m c) (state2 (prm m c) (img m c)) _ _ _ (at_v61 m ρ c)
        (fun o k => (congrFun (keep30 m ρ c main_v5 (by decide)) _).trans (at_v5 m ρ c o k))
        (fun o => (host_v62 (W29 m ρ c) o).trans (congrFun (W29_args m ρ c main_arg6 (by decide)) _)) o p b)
      (fun r k => congrFun (W30_args m ρ c main_arg7 (by decide)) _)
      (fun r => (host_v63 (W29 m ρ c) r).trans (congrFun (W29_args m ρ c main_arg8 (by decide)) _))
      (fun r k => (congrFun (keep30 m ρ c main_v9 (by decide)) _).trans (at_v9 m ρ c r k))
      (fun r => (congrFun (keep30 m ρ c main_v11 (by decide)) _).trans (at_v11 m ρ c r)) r b))

/-- The first logits are there at the end, -/
theorem end_v31 (b : Fin 256) (e : Fin 4) : (W32 m ρ c (Proc.devRef .tc main_v31) : FVec Ideal S256x4 .f32) (ix2 b e)
    = logit (prm m c) (state0 (prm m c) (img m c) b) e := by
  have h : W32 m ρ c (Proc.devRef .tc main_v31) = W15 m ρ c (Proc.devRef .tc main_v31) := by
    rw [W32_of m ρ c main_v31 (by decide), W31_of m ρ c main_v31 (by decide), W30_of m ρ c main_v31 (by decide),
      W29_of m ρ c main_v31 (by decide), W28_of m ρ c main_v31 (by decide), W27_of m ρ c main_v31 (by decide),
      W26_of m ρ c main_v31 (by decide), W25_of m ρ c main_v31 (by decide), W24_of m ρ c main_v31 (by decide),
      W23_of m ρ c main_v31 (by decide), W22_of m ρ c main_v31 (by decide), W21_of m ρ c main_v31 (by decide),
      W20_of m ρ c main_v31 (by decide), W19_of m ρ c main_v31 (by decide), W18_of m ρ c main_v31 (by decide),
      W17_of m ρ c main_v31 (by decide), W16_of m ρ c main_v31 (by decide)]
  exact (congrFun h _).trans (at_v31 m ρ c b e)

/-- and so are the second. -/
theorem end_v40 (b : Fin 256) (e : Fin 4) : (W32 m ρ c (Proc.devRef .tc main_v40) : FVec Ideal S256x4 .f32) (ix2 b e)
    = logit (prm m c) (state1 (prm m c) (img m c) b) e := by
  have h : W32 m ρ c (Proc.devRef .tc main_v40) = W22 m ρ c (Proc.devRef .tc main_v40) := by
    rw [W32_of m ρ c main_v40 (by decide), W31_of m ρ c main_v40 (by decide), W30_of m ρ c main_v40 (by decide),
      W29_of m ρ c main_v40 (by decide), W28_of m ρ c main_v40 (by decide), W27_of m ρ c main_v40 (by decide),
      W26_of m ρ c main_v40 (by decide), W25_of m ρ c main_v40 (by decide), W24_of m ρ c main_v40 (by decide),
      W23_of m ρ c main_v40 (by decide)]
  exact (congrFun h _).trans (at_v40 m ρ c b e)

end Cert.Moe
-- ==== Proof.RefTaps.lean ====
/- One tap of each of the reference's convolutions: a shifted slice of the bordered input against a slice of the weights. -/
module

public import proofs.«01_k».proof.Proof.Gen.ReferenceIdeal.Read
public import proofs.«01_k».proof.Proof.Border
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Moe
open Cert.ReferenceIdeal Cert.ReferenceIdeal.Gen Cert.ReferenceIdeal.Read

/-- The images with a border of zeros. -/
theorem pad_images (X : FVec Ideal S256x3x32x32 .f32) (b : Fin 256) (i : Fin 3) (Y Z : Fin 34) :
    pad S256x3x34x34 ![0, 0, 1, 1] ![0, 0, 1, 1] ![0, 0, 0, 0] X (sitofp .f32 (constantI S_ 32 0#32))
      pads_S256x3x32x32_S256x3x34x34_000_000_110_110 h_S_ (ix4 b i Y Z) = padded (fun y x => X (ix4 b i y x)) Y.val Z.val := by
  pointwise
  exact padded_of (fun y x => X (ix4 b i y x)) Y.val Z.val _ zero_word

/-- A state with a border of zeros. -/
theorem pad_states (X : FVec Ideal S256x16x16x16 .f32) (b : Fin 256) (i : Fin 16) (Y Z : Fin 18) :
    pad S256x16x18x18 ![0, 0, 1, 1] ![0, 0, 1, 1] ![0, 0, 0, 0] X (sitofp .f32 (constantI S_ 32 0#32))
      pads_S256x16x16x16_S256x16x18x18_000_000_110_110 h_S_ (ix4 b i Y Z) = padded (fun y x => X (ix4 b i y x)) Y.val Z.val := by
  pointwise
  exact padded_of (fun y x => X (ix4 b i y x)) Y.val Z.val _ zero_word

/-- A tap of the first convolution, as an array. -/
abbrev stemTap (X : FVec Ideal S256x3x34x34 .f32) (W : FVec Ideal S16x3x3x3 .f32) (ky kx : Fin 3)
    (hs : S256x3x34x34.SlicesBy ![0, 0, ky.val, kx.val] ![1, 1, 2, 2] S256x3x16x16)
    (hw : S16x3x3x3.Slices ![0, 0, ky.val, kx.val] S16x3x1x1) : FVec Ideal S256x16x16x16 .f32 :=
  transpose S256x16x16x16 [0, 3, 1, 2] (Host.dotGeneral dot_S256x3x16x16_S16x3_S256x16x16x16_1_1_023_0_n_n none
    (Host.slice S256x3x16x16 ![0, 0, ky.val, kx.val] ![1, 1, 2, 2] X hs)
    (shapeCast S16x3 (extractStridedSlice S16x3x1x1 ![0, 0, ky.val, kx.val] W hw) shapeCasts_S16x3x1x1_S16x3))
    transposes_S256x16x16x16_S256x16x16x16_0_3_1_2

/-- It is one tap of the convolution of what is inside the border. -/
theorem stem_tap (f : Fin 256 → Fin 3 → Fin 32 → Fin 32 → EReal) (X : FVec Ideal S256x3x34x34 .f32) (W : FVec Ideal S16x3x3x3 .f32)
    (hX : ∀ b i Y Z, X (ix4 b i Y Z) = padded (f b i) Y.val Z.val) (ky kx : Fin 3) (hs) (hw) (b : Fin 256) (o y x : Fin 16) :
    stemTap X W ky kx hs hw (ix4 b o y x) = tap 2 (fun i v u => W (ix4 o i v u)) (f b) y.val x.val ky kx := by
  pointwise
  refine Finset.sum_congr rfl fun i _ => Ideal.mul_congr ((hX _ _ _ _).trans ?_) rfl
  simp only [add_comm]

/-- A tap of the experts' convolution, as an array. -/
abbrev expertTap (X : FVec Ideal S256x16x18x18 .f32) (W : FVec Ideal S4x16x16x3x3 .f32) (ky kx : Fin 3)
    (hs : S256x16x18x18.Slices ![0, 0, ky.val, kx.val] S256x16x16x16)
    (hw : S4x16x16x3x3.Slices ![0, 0, 0, ky.val, kx.val] S4x16x16x1x1) : FVec Ideal S256x4x16x16x16 .f32 :=
  transpose S256x4x16x16x16 [0, 3, 4, 1, 2] (Host.dotGeneral dot_S256x16x16x16_S4x16x16_S256x16x16x4x16_1_2_023_01_n_n none
    (extractStridedSlice S256x16x16x16 ![0, 0, ky.val, kx.val] X hs)
    (shapeCast S4x16x16 (extractStridedSlice S4x16x16x1x1 ![0, 0, 0, ky.val, kx.val] W hw) shapeCasts_S4x16x16x1x1_S4x16x16))
    transposes_S256x16x16x4x16_S256x4x16x16x16_0_3_4_1_2

/-- It is one tap of each expert's convolution. -/
theorem expert_tap (f : Fin 256 → Fin 16 → Fin 16 → Fin 16 → EReal) (X : FVec Ideal S256x16x18x18 .f32)
    (W : FVec Ideal S4x16x16x3x3 .f32) (hX : ∀ b i Y Z, X (ix4 b i Y Z) = padded (f b i) Y.val Z.val) (ky kx : Fin 3) (hs) (hw)
    (b : Fin 256) (e : Fin 4) (o y x : Fin 16) :
    expertTap X W ky kx hs hw (ix5 b e o y x) = tap 1 (fun i v u => W (ix5 e o i v u)) (f b) y.val x.val ky kx := by
  pointwise
  refine Finset.sum_congr rfl fun i _ => Ideal.mul_congr ((hX _ _ _ _).trans ?_) rfl
  simp only [one_mul, add_comm]

/-- A tap of the last convolution, as an array. -/
abbrev lastTap (X : FVec Ideal S256x16x18x18 .f32) (W : FVec Ideal S8x16x3x3 .f32) (ky kx : Fin 3)
    (hs : S256x16x18x18.SlicesBy ![0, 0, ky.val, kx.val] ![1, 1, 2, 2] S256x16x8x8)
    (hw : S8x16x3x3.Slices ![0, 0, ky.val, kx.val] S8x16x1x1) : FVec Ideal S256x8x8x8 .f32 :=
  transpose S256x8x8x8 [0, 3, 1, 2] (Host.dotGeneral dot_S256x16x8x8_S8x16_S256x8x8x8_1_1_023_0_n_n none
    (Host.slice S256x16x8x8 ![0, 0, ky.val, kx.val] ![1, 1, 2, 2] X hs)
    (shapeCast S8x16 (extractStridedSlice S8x16x1x1 ![0, 0, ky.val, kx.val] W hw) shapeCasts_S8x16x1x1_S8x16))
    transposes_S256x8x8x8_S256x8x8x8_0_3_1_2

/-- It is one tap of the last convolution. -/
theorem last_tap (f : Fin 256 → Fin 16 → Fin 16 → Fin 16 → EReal) (X : FVec Ideal S256x16x18x18 .f32) (W : FVec Ideal S8x16x3x3 .f32)
    (hX : ∀ b i Y Z, X (ix4 b i Y Z) = padded (f b i) Y.val Z.val) (ky kx : Fin 3) (hs) (hw) (b : Fin 256) (o y x : Fin 8) :
    lastTap X W ky kx hs hw (ix4 b o y x) = tap 2 (fun i v u => W (ix4 o i v u)) (f b) y.val x.val ky kx := by
  pointwise
  refine Finset.sum_congr rfl fun i _ => Ideal.mul_congr ((hX _ _ _ _).trans ?_) rfl
  simp only [add_comm]

/-- A constant of zeros, spread, is zero. -/
theorem zero_float : (FloatOps.ofBits (F := Ideal) .f32 0x00000000#32 : EReal) = 0 := by
  pointwise

/-- The first convolution. -/
theorem stem_conv (x0 : FVec Ideal S256x3x32x32 .f32) (x1 : FVec Ideal S16x3x3x3 .f32) (b : Fin 256) (o y x : Fin 16) :
    val_main_v55 (F := Ideal) x0 x1 (ix4 b o y x)
    = conv 2 (fun i v u => (x1 (ix4 o i v u) : EReal)) (fun i y x => x0 (ix4 b i y x)) y.val x.val := by
  have h := stem_tap (fun b i y x => x0 (ix4 b i y x)) (val_main_v0 (F := Ideal) x0) x1 (pad_images x0)
  refine Eq.trans ?_ (conv_taps _ _ _ _ _)
  exact Ideal.add_congr (Ideal.add_congr (Ideal.add_congr (Ideal.add_congr (Ideal.add_congr (Ideal.add_congr (Ideal.add_congr
    (Ideal.add_congr (Ideal.add_congr zero_float (h 0 0 _ _ b o y x)) (h 0 1 _ _ b o y x)) (h 0 2 _ _ b o y x))
    (h 1 0 _ _ b o y x)) (h 1 1 _ _ b o y x)) (h 1 2 _ _ b o y x)) (h 2 0 _ _ b o y x)) (h 2 1 _ _ b o y x)) (h 2 2 _ _ b o y x)

end Cert.Moe
-- ==== Proof.TopTwo.lean ====
/- The two greatest of four weights, as a stable sort by "greater" finds them: the sort's first two positions are the ones
   that fewer than two others come before, so its choice and the gate's are one. -/
module

public import proofs.«01_k».proof.Proof.Gate

@[expose] public section

set_option maxRecDepth 16384

noncomputable section

open Idealize.ShloMosaic

namespace Cert.Moe

/-- A stable insertion sort of an ascending list only ever asks whether a later element goes before an earlier one. -/
theorem stableSort_ascending {n : ℕ} (R B : Fin n → Fin n → Bool) (h : ∀ a b, a < b → R b a = B b a) :
    ∀ l : List (Fin n), l.Pairwise (· < ·) → stableSort R l = stableSort B l
  | [], _ => rfl
  | a :: l, hl => by
    rw [List.pairwise_cons] at hl
    unfold stableSort
    rw [stableSort_ascending R B h l hl.2]
    exact insertBefore_congr R B a _ fun b hb => h a b (hl.1 b ((perm_stableSort B l).mem_iff.mp hb))

/-- The position the stable sort by "greater" puts at place `p`. -/
def order (w : Fin 4 → EReal) (p : Fin 4) : Fin 4 :=
  sortedFrom (fun k k' => Ideal.cmpTotal .gt (w k) (w k') == 1#1) p

/-- "Greater, or equal with a smaller index", as a Boolean. -/
def firstOf (w : Fin 4 → EReal) (k k' : Fin 4) : Bool :=
  decide (w k' < w k) || (decide (w k = w k') && decide (k < k'))

/-- It is a strict total order. -/
theorem firstOf_total (w : Fin 4 → EReal) : StrictTotalBefore (firstOf w) :=
  StrictTotalBefore.of_key_then_position (fun a b : EReal => decide (b < a)) w (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- The stable sort by "greater" is the sort by that order. -/
theorem order_eq (w : Fin 4 → EReal) (p : Fin 4) : order w p = sortedFrom (firstOf w) p := by
  have e : sortPositions 4 (fun k k' => Ideal.cmpTotal .gt (w k) (w k') == 1#1) = sortPositions 4 (firstOf w) := by
    refine stableSort_ascending _ _ (fun a b hab => ?_) _ (List.pairwise_lt_finRange 4)
    have hn : ¬ b < a := not_lt.mpr hab.le
    by_cases h : w a < w b <;> simp [firstOf, Ideal.cmpTotal, Ideal.cmp, CmpDirection.ordered, h, hn]
  unfold order sortedFrom
  simp only [List.get_eq_getElem, Fin.val_cast]
  exact getElem_congr_coll e

/-- Of two places the earlier one's position comes first. -/
theorem order_beats (w : Fin 4 → EReal) {i j : Fin 4} (h : i < j) : Beats w (order w i) (order w j) := by
  have hB := firstOf_total w
  have hinv := sortedFrom_noInversion (firstOf w) (firstOf w) (fun a b h => hB.asymm a b h) (fun _ _ h => h) hB.negTrans i j h
  have hne : sortedFrom (firstOf w) i ≠ sortedFrom (firstOf w) j :=
    fun e => h.ne (sortedFrom_injective _ e)
  rw [order_eq, order_eq]
  rcases hB.total _ _ hne with h' | h'
  · simpa [firstOf, Beats] using h'
  · rw [h'] at hinv; exact absurd hinv (by decide)

/-- Coming first is asymmetric. -/
theorem beats_asymm (w : Fin 4 → EReal) {i j : Fin 4} (h : Beats w i j) : ¬ Beats w j i := by
  rintro (h' | ⟨h', h''⟩) <;> rcases h with h | ⟨e, h⟩
  · exact absurd h' (not_lt.mpr h.le)
  · exact absurd h' (by rw [e]; exact lt_irrefl _)
  · exact absurd h (by rw [h']; exact lt_irrefl _)
  · exact absurd h'' (not_lt.mpr h.le)

/-- The places are a rearrangement of the positions. -/
theorem order_bijective (w : Fin 4 → EReal) : Function.Bijective (order w) := by
  have : order w = sortedFrom (firstOf w) := funext (order_eq w)
  rw [this]
  exact ⟨sortedFrom_injective _, sortedFrom_surjective _⟩

/-- A sum over the positions, taken in the order of the places. -/
theorem sum_order {M : Type} [AddCommMonoid M] (w : Fin 4 → EReal) (f : Fin 4 → M) : ∑ k, f k = ∑ p, f (order w p) :=
  ((Equiv.ofBijective _ (order_bijective w)).sum_comp f).symm

/-- As many positions come before the one at place `p` as there are earlier places. -/
theorem rank_order (w : Fin 4 → EReal) (p : Fin 4) : rank w (order w p) = p.val := by
  classical
  have hb : ∀ i : Fin 4, Beats w (order w i) (order w p) ↔ i < p := fun i => by
    refine ⟨fun h => ?_, order_beats w⟩
    rcases lt_trichotomy i p with h' | h' | h'
    · exact h'
    · subst h'; exact absurd h (beats_asymm w h)
    · exact absurd h (beats_asymm w (order_beats w h'))
  unfold rank
  rw [sum_order w]
  simp only [hb]
  clear hb
  revert p
  decide

/-- What is kept at place `p`: the weight at the first two places. -/
theorem keep_order (w : Fin 4 → EReal) (p : Fin 4) : keep w (order w p) = if p.val < 2 then w (order w p) else 0 := by
  unfold keep; rw [rank_order]

/-- All that is kept is the first two weights. -/
theorem sum_keep (w : Fin 4 → EReal) : ∑ k, keep w k = w (order w 0) + w (order w 1) := by
  rw [sum_order w, Fin.sum_univ_four]
  simp only [keep_order]
  simp

/-- An exponential is not negative. -/
theorem exp_nonneg (x : EReal) : 0 ≤ Ideal.exp x := by
  induction x with
  | bot => exact le_refl (0 : EReal)
  | coe r => exact EReal.coe_nonneg.mpr (Real.exp_pos r).le
  | top => exact (le_top : (0 : EReal) ≤ ⊤)

/-- A difference from the greatest logit has a finite exponential. -/
theorem exp_peak (l : Fin 4 → EReal) (k : Fin 4) : Ideal.exp (l k - peak l) ≠ ⊤ := by
  have hk : l k ≤ peak l := by
    unfold peak
    fin_cases k <;> simp
  have h : l k - peak l ≤ 0 := (EReal.sub_le_sub hk le_rfl).trans EReal.sub_self_le_zero
  generalize l k - peak l = x at h
  induction x with
  | bot => exact (EReal.zero_ne_top : (0 : EReal) ≠ ⊤)
  | coe r => exact EReal.coe_ne_top (Real.exp r)
  | top => exact absurd h (by simp)

/-- The softmax is minus infinity everywhere, or nowhere negative and somewhere positive. -/
theorem soft_sign (l : Fin 4 → EReal) : (∀ e, soft l e = ⊥) ∨ ((∀ e, 0 ≤ soft l e) ∧ ∃ e, 0 < soft l e) := by
  have hz : 0 ≤ ∑ k, Ideal.exp (l k - peak l) := Finset.sum_nonneg fun k _ => exp_nonneg _
  by_cases h0 : ∑ k, Ideal.exp (l k - peak l) = 0
  · refine Or.inl fun e => ?_
    have := (Finset.sum_eq_zero_iff_of_nonneg fun k _ => exp_nonneg (l k - peak l)).mp h0 e (Finset.mem_univ _)
    unfold soft
    rw [h0, this]
    simp [Ideal.div]
  · have hd : ∀ e, soft l e = Ideal.exp (l e - peak l) * (∑ k, Ideal.exp (l k - peak l))⁻¹ := fun e => by
      unfold soft Ideal.div; rw [if_neg h0]
    have ht : ∑ k, Ideal.exp (l k - peak l) ≠ ⊤ := by
      rw [Fin.sum_univ_four]
      exact EReal.add_ne_top (EReal.add_ne_top (EReal.add_ne_top (exp_peak l 0) (exp_peak l 1)) (exp_peak l 2)) (exp_peak l 3)
    have hi : 0 < (∑ k, Ideal.exp (l k - peak l))⁻¹ := EReal.inv_pos_of_pos_ne_top (lt_of_le_of_ne hz (Ne.symm h0)) ht
    refine Or.inr ⟨fun e => by rw [hd]; exact mul_nonneg (exp_nonneg _) hi.le, ?_⟩
    by_contra hc
    push Not at hc
    refine h0 (Finset.sum_eq_zero fun k _ => ?_)
    by_contra hk
    have hp : 0 < Ideal.exp (l k - peak l) := lt_of_le_of_ne (exp_nonneg _) (Ne.symm hk)
    have := hc k
    rw [hd] at this
    exact absurd (EReal.mul_pos hp hi) (not_lt.mpr this)

/-- The two greatest softmax weights do not add up to zero. -/
theorem kept_ne_zero (l : Fin 4 → EReal) : soft l (order (soft l) 0) + soft l (order (soft l) 1) ≠ 0 := by
  rcases soft_sign l with h | ⟨h, e, he⟩
  · rw [h, h]; simp
  · refine ne_of_gt (add_pos_of_pos_of_nonneg ?_ (h _))
    obtain ⟨p, rfl⟩ := (order_bijective (soft l)).2 e
    rcases eq_or_ne p 0 with rfl | hp
    · exact he
    · rcases order_beats (soft l) (Fin.pos_of_ne_zero hp) with h' | ⟨h', _⟩
      · exact lt_trans he h'
      · rw [h']; exact he

/-- The weight routed to `e`, found by going through the two chosen places, is the gate's weight. -/
theorem gate_order (l : Fin 4 → EReal) (e : Fin 4) :
    (∑ k : Fin 2, if order (soft l) ⟨k.val, by omega⟩ = e then
        Ideal.div (soft l (order (soft l) ⟨k.val, by omega⟩)) (∑ k' : Fin 2, soft l (order (soft l) ⟨k'.val, by omega⟩)) else 0)
      = gateW l e := by
  obtain ⟨p, rfl⟩ := (order_bijective (soft l)).2 e
  unfold gateW
  rw [sum_keep, keep_order]
  simp only [(order_bijective (soft l)).1.eq_iff, Fin.sum_univ_two]
  have hz := kept_ne_zero l
  fin_cases p
  · simp
  · simp
  · simp [Ideal.div, hz]
  · simp [Ideal.div, hz]

end Cert.Moe
-- ==== Proof.RefGate.lean ====
/- The reference's gate: logits, softmax, the two greatest by a stable sort, and each expert's weight. -/
module

public import proofs.«01_k».proof.Proof.Gen.ReferenceIdeal.Read
public import proofs.«01_k».proof.Proof.Spec
public import proofs.«01_k».proof.Proof.TopTwo
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Moe
open Cert.ReferenceIdeal Cert.ReferenceIdeal.Gen Cert.ReferenceIdeal.Read

/-- The logits of a batch of states. -/
abbrev refLogits (X : FVec Ideal S256x4096 .f32) (G : FVec Ideal S4x4096 .f32) (g : FVec Ideal S4 .f32) : FVec Ideal S256x4 .f32 :=
  addf (Host.dotGeneral dot_S256x4096_S4096x4_S256x4_1_0_0_1_n_n none X (transpose S4096x4 [1, 0] G transposes_S4x4096_S4096x4_1_0))
    (broadcastInDim S256x4 ![0, 1] bcast_S1x4_S256x4_0_1 (broadcastInDim S1x4 ![1] bcast_S4_S1x4_1 g))

/-- They are each state's logits. -/
theorem ref_logits (P : Params) (f : Fin 256 → Fin 4096 → EReal) (X : FVec Ideal S256x4096 .f32) (G : FVec Ideal S4x4096 .f32)
    (g : FVec Ideal S4 .f32) (hX : ∀ b d, X (ix2 b d) = f b d) (hG : ∀ e d, G (ix2 e d) = P.G e d) (hg : ∀ e, g (ix1 e) = P.g e)
    (b : Fin 256) (e : Fin 4) : refLogits X G g (ix2 b e) = logit P (f b) e := by
  pointwise
  exact Ideal.add_congr (Finset.sum_congr rfl fun d _ => (mul_comm _ _).trans (Ideal.mul_congr (hG e d) (hX b d))) (hg e)

/-- The softmax of a batch of logits. -/
abbrev refExp (L : FVec Ideal S256x4 .f32) : FVec Ideal S256x4 .f32 :=
  Host.exp (subf L (broadcastInDim S256x4 ![0, 1] bcast_S256x1_S256x4_0_1 (broadcastInDim S256x1 ![0] bcast_S256_S256x1_0
    (maximumf (broadcastInDim S256 ![] bcast_S_S256 (constant S_ .f32 0xFF800000#32))
      (Host.reduce FloatOps.maximumf L (constant S_ .f32 0xFF800000#32) reducesTo_S256x4_S256_d1 h_S_)))))

/-- The softmax of a batch of logits. -/
abbrev refSoft (L : FVec Ideal S256x4 .f32) : FVec Ideal S256x4 .f32 :=
  Host.divf (refExp L) (broadcastInDim S256x4 ![0, 1] bcast_S256x1_S256x4_0_1 (broadcastInDim S256x1 ![0] bcast_S256_S256x1_0
    (Host.reduceAdd (refExp L) (constant S_ .f32 0x00000000#32) reducesTo_S256x4_S256_d1 h_S_)))

/-- The greatest of four, folded from the least. -/
theorem fold_peak (g : Fin 4 → EReal) : Finset.univ.fold max (⊥ : EReal) g = peak g := by
  show Finset.univ.sup g = _
  have h (e : Fin 4) : g e ≤ Finset.univ.sup g := Finset.le_sup (Finset.mem_univ e)
  refine le_antisymm (Finset.sup_le fun e _ => ?_) (max_le (max_le (h 0) (h 1)) (max_le (h 2) (h 3)))
  unfold peak
  fin_cases e <;> simp

/-- Numbers less the greatest of them, exponentiated. -/
theorem ref_exp (L : FVec Ideal S256x4 .f32) (b : Fin 256) (e : Fin 4) :
    refExp L (ix2 b e) = Ideal.exp (L (ix2 b e) - peak fun e => L (ix2 b e)) := by
  pointwise [bot_bits]
  rw [max_eq_right bot_le, fold_peak]

/-- It is each row's softmax. -/
theorem ref_soft (L : FVec Ideal S256x4 .f32) (b : Fin 256) (e : Fin 4) :
    refSoft L (ix2 b e) = soft (fun e => L (ix2 b e)) e := by
  have h := ref_exp L b
  generalize hE : refExp L = E at h
  unfold refSoft
  rw [hE]
  pointwise
  unfold soft
  simp only [h]

/-- A row's index with its column replaced. -/
theorem along_row (h : 1 < S256x4.rank) (b : Fin 256) (q k : Fin 4) :
    (ix2 b q : S256x4.Idx).along ⟨1, h⟩ k = ix2 b k :=
  funext fun a => match a with
    | ⟨0, _⟩ => rfl
    | ⟨1, _⟩ => rfl

/-- What the sort of a row puts at a place. -/
theorem sorted_row (h : 1 < S256x4.rank) (p : FVec Ideal S256x4 .f32) (b : Fin 256) (q : Fin 4) :
    sortedFrom (fun k k' : Fin 4 => FloatOps.cmpfTotal (F := Ideal) .gt (p ((ix2 b q : S256x4.Idx).along ⟨1, h⟩ k))
      (p ((ix2 b q : S256x4.Idx).along ⟨1, h⟩ k')) == 1#1) q = order (fun e => p (ix2 b e)) q := by
  have e : (fun k k' : Fin 4 => FloatOps.cmpfTotal (F := Ideal) .gt (p ((ix2 b q : S256x4.Idx).along ⟨1, h⟩ k))
      (p ((ix2 b q : S256x4.Idx).along ⟨1, h⟩ k')) == 1#1) = fun k k' => Ideal.cmpTotal .gt (p (ix2 b k)) (p (ix2 b k')) == 1#1 :=
    funext fun k => funext fun k' => congrArg₂ (fun u v : EReal => Ideal.cmpTotal .gt u v == 1#1)
      (congrArg p (along_row h b q k)) (congrArg p (along_row h b q k'))
  exact congrArg (fun B => sortedFrom B q) e

/-- The two greatest of each row, and where they stand. -/
abbrev refTop (p : FVec Ideal S256x4 .f32) : FVec Ideal S256x2 .f32 × IVec S256x2 32 :=
  Host.topK S256x2 1 (FloatOps.cmpfTotal (F := Ideal) .gt) p sliceFits_S256x4_S256x2

/-- The weights of the two greatest, in the order of the sort. -/
theorem top_value (p : FVec Ideal S256x4 .f32) (b : Fin 256) (k : Fin 2) :
    (refTop p).1 (ix2 b k) = p (ix2 b (order (fun e => p (ix2 b e)) ⟨k.val, by omega⟩)) := by
  unfold refTop Host.topK
  pointwise
  unfold Host.sort2
  rw [dif_pos (show 1 < S256x4.rank by decide)]
  exact (congrArg p (along_row _ b _ _)).trans (congrArg (fun q => p (ix2 b q)) (sorted_row _ p b ⟨k.val, by omega⟩))

/-- Their places. -/
theorem top_place (p : FVec Ideal S256x4 .f32) (b : Fin 256) (k : Fin 2) :
    (refTop p).2 (ix2 b k) = BitVec.ofNat 32 (order (fun e => p (ix2 b e)) ⟨k.val, by omega⟩).val := by
  unfold refTop Host.topK
  pointwise
  unfold Host.sort2
  rw [dif_pos (show 1 < S256x4.rank by decide)]
  exact congrArg (fun q : Fin 4 => BitVec.ofNat 32 q.val) (sorted_row _ p b ⟨k.val, by omega⟩)

/-- One expert's weight: over the two greatest, the one that stands at the expert's place, over their sum. -/
abbrev refWeight (p : FVec Ideal S256x4 .f32) (w : BitVec 32) : FVec Ideal S256 .f32 :=
  Host.reduceAdd (select (cmpi .eq (refTop p).2 (broadcastInDim S256x2 ![] bcast_S_S256x2 (constantI S_ 32 w)))
    (mulf (Host.divf (refTop p).1 (broadcastInDim S256x2 ![0, 1] bcast_S256x1_S256x2_0_1 (broadcastInDim S256x1 ![0] bcast_S256_S256x1_0
      (Host.reduceAdd (refTop p).1 (constant S_ .f32 0x00000000#32) reducesTo_S256x2_S256_d1 h_S_))))
      (broadcastInDim S256x2 ![] bcast_S_S256x2 (constant S_ .f32 0x3F800000#32)))
    (broadcastInDim S256x2 ![] bcast_S_S256x2 (id (constant S_ .f32 0x00000000#32))))
    (constant S_ .f32 0x00000000#32) reducesTo_S256x2_S256_d1 h_S_

/-- Picking by the equality of two places. -/
theorem pick_place (i e : Fin 4) (x y : EReal) :
    Scalar.select (IntOp.cmpi .eq (BitVec.ofNat 32 i.val) (BitVec.ofNat 32 e.val)) x y = if i = e then x else y := by
  fin_cases i <;> fin_cases e <;> rfl

/-- It is the gate's weight. -/
theorem ref_weight (p : FVec Ideal S256x4 .f32) (l : Fin 4 → EReal) (b : Fin 256) (hp : ∀ e, p (ix2 b e) = soft l e) (e : Fin 4) :
    refWeight p (BitVec.ofNat 32 e.val) (ix1 b) = gateW l e := by
  have h1 := top_value p b
  have h2 := top_place p b
  rw [show (fun e => p (ix2 b e)) = soft l from funext hp] at h1 h2
  unfold refWeight
  generalize refTop p = T at h1 h2 ⊢
  pointwise
  rw [← gate_order]
  have hz : (constant (F := Ideal) S_ .f32 0x00000000#32 ix0 : EReal) = 0 := by pointwise
  refine Finset.sum_congr rfl fun k _ => ?_
  simp only [h1, h2, hp, id_eq, hz, pick_place]

end Cert.Moe
-- ==== Proof.RefLayer.lean ====
/- The reference's layers: the experts' convolution, the mixture with the gate's weights, and the linear map. -/
module

public import proofs.«01_k».proof.Proof.Gen.ReferenceIdeal.Read
public import proofs.«01_k».proof.Proof.RefTaps
public import proofs.«01_k».proof.Proof.RefGate
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Moe
open Cert.ReferenceIdeal Cert.ReferenceIdeal.Gen Cert.ReferenceIdeal.Read

/-- A batch of states as channels of rows and columns. -/
abbrev refPlanes (X : FVec Ideal S256x4096 .f32) : FVec Ideal S256x16x16x16 .f32 :=
  shapeCast S256x16x16x16 X shapeCasts_S256x4096_S256x16x16x16

/-- The same with a border of zeros. -/
abbrev refPad (X : FVec Ideal S256x4096 .f32) : FVec Ideal S256x16x18x18 .f32 :=
  pad S256x16x18x18 ![0, 0, 1, 1] ![0, 0, 1, 1] ![0, 0, 0, 0] (refPlanes X) (sitofp .f32 (constantI S_ 32 0#32))
    pads_S256x16x16x16_S256x16x18x18_000_000_110_110 h_S_

/-- The bordered state, channel by channel. -/
theorem ref_pad (f : Fin 256 → Fin 4096 → EReal) (X : FVec Ideal S256x4096 .f32) (hX : ∀ b d, X (ix2 b d) = f b d) (b : Fin 256)
    (i : Fin 16) (Y Z : Fin 18) : refPad X (ix4 b i Y Z) = padded (plane (f b) i) Y.val Z.val := by
  refine (pad_states _ b i Y Z).trans (congrArg (fun g => padded g _ _) (funext fun y => funext fun x => ?_))
  refine Eq.trans ?_ (hX b _)
  pointwise
  blk_ext

/-- The experts' outputs on a batch of states. -/
abbrev refExperts (X : FVec Ideal S256x4096 .f32) (W : FVec Ideal S4x16x16x3x3 .f32) (be : FVec Ideal S4x16 .f32) :
    FVec Ideal S256x4x16x16x16 .f32 :=
  maximumf (addf (addf (addf (addf (addf (addf (addf (addf (addf (addf
    (broadcastInDim S256x4x16x16x16 ![] bcast_S_S256x4x16x16x16 (constant S_ .f32 0x00000000#32))
    (expertTap (refPad X) W 0 0 slices_S256x16x18x18_S256x16x16x16_0_0_0_0 slices_S4x16x16x3x3_S4x16x16x1x1_0_0_0_0_0))
    (expertTap (refPad X) W 0 1 slices_S256x16x18x18_S256x16x16x16_0_0_0_1 slices_S4x16x16x3x3_S4x16x16x1x1_0_0_0_0_1))
    (expertTap (refPad X) W 0 2 slices_S256x16x18x18_S256x16x16x16_0_0_0_2 slices_S4x16x16x3x3_S4x16x16x1x1_0_0_0_0_2))
    (expertTap (refPad X) W 1 0 slices_S256x16x18x18_S256x16x16x16_0_0_1_0 slices_S4x16x16x3x3_S4x16x16x1x1_0_0_0_1_0))
    (expertTap (refPad X) W 1 1 slices_S256x16x18x18_S256x16x16x16_0_0_1_1 slices_S4x16x16x3x3_S4x16x16x1x1_0_0_0_1_1))
    (expertTap (refPad X) W 1 2 slices_S256x16x18x18_S256x16x16x16_0_0_1_2 slices_S4x16x16x3x3_S4x16x16x1x1_0_0_0_1_2))
    (expertTap (refPad X) W 2 0 slices_S256x16x18x18_S256x16x16x16_0_0_2_0 slices_S4x16x16x3x3_S4x16x16x1x1_0_0_0_2_0))
    (expertTap (refPad X) W 2 1 slices_S256x16x18x18_S256x16x16x16_0_0_2_1 slices_S4x16x16x3x3_S4x16x16x1x1_0_0_0_2_1))
    (expertTap (refPad X) W 2 2 slices_S256x16x18x18_S256x16x16x16_0_0_2_2 slices_S4x16x16x3x3_S4x16x16x1x1_0_0_0_2_2))
    (broadcastInDim S256x4x16x16x16 ![0, 1, 2, 3, 4] bcast_S1x4x16x1x1_S256x4x16x16x16_0_1_2_3_4
      (broadcastInDim S1x4x16x1x1 ![1, 2, 3, 4] bcast_S4x16x1x1_S1x4x16x1x1_1_2_3_4
        (broadcastInDim S4x16x1x1 ![0, 1] bcast_S4x16_S4x16x1x1_0_1 be))))
    (broadcastInDim S256x4x16x16x16 ![] bcast_S_S256x4x16x16x16 (constant S_ .f32 0x00000000#32))

/-- The experts' biases, spread over images and places. -/
theorem spread_be (be : FVec Ideal S4x16 .f32) (b : Fin 256) (e : Fin 4) (o y x : Fin 16) :
    (broadcastInDim S256x4x16x16x16 ![0, 1, 2, 3, 4] bcast_S1x4x16x1x1_S256x4x16x16x16_0_1_2_3_4
      (broadcastInDim S1x4x16x1x1 ![1, 2, 3, 4] bcast_S4x16x1x1_S1x4x16x1x1_1_2_3_4
        (broadcastInDim S4x16x1x1 ![0, 1] bcast_S4x16_S4x16x1x1_0_1 be)) : FVec Ideal S256x4x16x16x16 .f32) (ix5 b e o y x)
      = be (ix2 e o) := by
  pointwise

/-- They are each expert's output on each state. -/
theorem ref_experts (P : Params) (f : Fin 256 → Fin 4096 → EReal) (X : FVec Ideal S256x4096 .f32) (W : FVec Ideal S4x16x16x3x3 .f32)
    (be : FVec Ideal S4x16 .f32) (hX : ∀ b d, X (ix2 b d) = f b d) (hW : ∀ e o i y x, W (ix5 e o i y x) = P.We e o i y x)
    (hb : ∀ e o, be (ix2 e o) = P.be e o) (b : Fin 256) (e : Fin 4) (d : Fin 4096) :
    refExperts X W be (ix5 b e ⟨d.val / 256, by omega⟩ ⟨d.val / 16 % 16, by omega⟩ ⟨d.val % 16, by omega⟩) = expert P (f b) e d := by
  have h := fun ky kx hs hw => expert_tap (fun b => plane (f b)) (refPad X) W (ref_pad f X hX) ky kx hs hw b e
    ⟨d.val / 256, by omega⟩ ⟨d.val / 16 % 16, by omega⟩ ⟨d.val % 16, by omega⟩
  have hw : (fun i v u => (W (ix5 e ⟨d.val / 256, by omega⟩ i v u) : EReal)) = P.We e ⟨d.val / 256, by omega⟩ :=
    funext fun i => funext fun v => funext fun u => hW _ _ _ _ _
  rw [hw] at h
  refine congrArg₂ max (Ideal.add_congr (Eq.trans ?_ (conv_taps _ _ _ _ _)) ((spread_be be b e _ _ _).trans (hb _ _))) zero_float
  exact Ideal.add_congr (Ideal.add_congr (Ideal.add_congr (Ideal.add_congr (Ideal.add_congr (Ideal.add_congr (Ideal.add_congr
    (Ideal.add_congr (Ideal.add_congr zero_float (h 0 0 _ _)) (h 0 1 _ _)) (h 0 2 _ _)) (h 1 0 _ _)) (h 1 1 _ _)) (h 1 2 _ _))
    (h 2 0 _ _)) (h 2 1 _ _)) (h 2 2 _ _)

/-- One expert's output times its weight. -/
abbrev refTerm (E : FVec Ideal S256x4x16x16x16 .f32) (w : FVec Ideal S256 .f32) (e : Fin 4)
    (hs : S256x4x16x16x16.Slices ![0, e.val, 0, 0, 0] S256x1x16x16x16) : FVec Ideal S256x4096 .f32 :=
  mulf (broadcastInDim S256x4096 ![0, 1] bcast_S256x1_S256x4096_0_1 (broadcastInDim S256x1 ![0] bcast_S256_S256x1_0 w))
    (shapeCast S256x4096 (shapeCast S256x16x16x16 (extractStridedSlice S256x1x16x16x16 ![0, e.val, 0, 0, 0] E hs)
      shapeCasts_S256x1x16x16x16_S256x16x16x16) shapeCasts_S256x16x16x16_S256x4096)

/-- At one place of the state. -/
theorem ref_term (E : FVec Ideal S256x4x16x16x16 .f32) (w : FVec Ideal S256 .f32) (e : Fin 4) (hs) (b : Fin 256) (d : Fin 4096) :
    refTerm E w e hs (ix2 b d)
      = E (ix5 b e ⟨d.val / 256, by omega⟩ ⟨d.val / 16 % 16, by omega⟩ ⟨d.val % 16, by omega⟩) * w (ix1 b) := by
  refine Eq.trans ?_ (mul_comm _ _)
  pointwise
  blk_ext

/-- The mixture of the experts' outputs. -/
abbrev refMix (E : FVec Ideal S256x4x16x16x16 .f32) (w : Fin 4 → FVec Ideal S256 .f32) : FVec Ideal S256x4096 .f32 :=
  addf (addf (addf (addf (broadcastInDim S256x4096 ![] bcast_S_S256x4096 (constant S_ .f32 0x00000000#32))
    (refTerm E (w 0) 0 slices_S256x4x16x16x16_S256x1x16x16x16_0_0_0_0_0))
    (refTerm E (w 1) 1 slices_S256x4x16x16x16_S256x1x16x16x16_0_1_0_0_0))
    (refTerm E (w 2) 2 slices_S256x4x16x16x16_S256x1x16x16x16_0_2_0_0_0))
    (refTerm E (w 3) 3 slices_S256x4x16x16x16_S256x1x16x16x16_0_3_0_0_0)

/-- It is the network's mixture. -/
theorem ref_mix (P : Params) (f : Fin 256 → Fin 4096 → EReal) (E : FVec Ideal S256x4x16x16x16 .f32) (w : Fin 4 → FVec Ideal S256 .f32)
    (hE : ∀ b e (d : Fin 4096), E (ix5 b e ⟨d.val / 256, by omega⟩ ⟨d.val / 16 % 16, by omega⟩ ⟨d.val % 16, by omega⟩)
      = expert P (f b) e d)
    (hw : ∀ b e, w e (ix1 b) = gateW (logit P (f b)) e) (b : Fin 256) (d : Fin 4096) : refMix E w (ix2 b d) = mix P (f b) d := by
  have h := fun e hs => (ref_term E (w e) e hs b d).trans (Ideal.mul_congr (hE b e d) (hw b e))
  refine Eq.trans (Ideal.add_congr (Ideal.add_congr (Ideal.add_congr (Ideal.add_congr zero_float (h 0 _)) (h 1 _)) (h 2 _)) (h 3 _)) ?_
  unfold mix
  rw [Fin.sum_univ_four, zero_add]

/-- The linear map on a batch of states. -/
abbrev refDense (M : FVec Ideal S256x4096 .f32) (T : FVec Ideal S4096x4096 .f32) (t : FVec Ideal S4096 .f32) :
    FVec Ideal S256x4096 .f32 :=
  addf (Host.dotGeneral dot_S256x4096_S4096x4096_S256x4096_1_0_0_1_n_n none M
    (transpose S4096x4096 [1, 0] T transposes_S4096x4096_S4096x4096_1_0))
    (broadcastInDim S256x4096 ![0, 1] bcast_S1x4096_S256x4096_0_1 (broadcastInDim S1x4096 ![1] bcast_S4096_S1x4096_1 t))

/-- It is the layer's output. -/
theorem ref_dense (P : Params) (f : Fin 256 → Fin 4096 → EReal) (M : FVec Ideal S256x4096 .f32) (T : FVec Ideal S4096x4096 .f32)
    (t : FVec Ideal S4096 .f32) (hM : ∀ b d, M (ix2 b d) = mix P (f b) d) (hT : ∀ k d, T (ix2 k d) = P.T k d)
    (ht : ∀ k, t (ix1 k) = P.t k) (b : Fin 256) (k : Fin 4096) : refDense M T t (ix2 b k) = route P (f b) k := by
  pointwise
  exact Ideal.add_congr (Finset.sum_congr rfl fun d _ => (mul_comm _ _).trans (Ideal.mul_congr (hT k d) (hM b d))) (ht k)

/-- One gated layer of the reference, on a batch of states. -/
abbrev refLayer (X : FVec Ideal S256x4096 .f32) (x3 : FVec Ideal S4x16x16x3x3 .f32) (x4 : FVec Ideal S4x16 .f32)
    (x11 : FVec Ideal S4x4096 .f32) (x12 : FVec Ideal S4 .f32) (x13 : FVec Ideal S4096x4096 .f32) (x14 : FVec Ideal S4096 .f32) :
    FVec Ideal S256x4096 .f32 :=
  refDense (refMix (refExperts X x3 x4) fun e => refWeight (refSoft (refLogits X x11 x12)) (BitVec.ofNat 32 e.val)) x13 x14

/-- It is one layer of the network. -/
theorem ref_layer (P : Params) (f : Fin 256 → Fin 4096 → EReal) (X : FVec Ideal S256x4096 .f32) (x3 : FVec Ideal S4x16x16x3x3 .f32)
    (x4 : FVec Ideal S4x16 .f32) (x11 : FVec Ideal S4x4096 .f32) (x12 : FVec Ideal S4 .f32) (x13 : FVec Ideal S4096x4096 .f32)
    (x14 : FVec Ideal S4096 .f32) (hX : ∀ b d, X (ix2 b d) = f b d) (hW : ∀ e o i y x, x3 (ix5 e o i y x) = P.We e o i y x)
    (hb : ∀ e o, x4 (ix2 e o) = P.be e o) (hG : ∀ e d, x11 (ix2 e d) = P.G e d) (hg : ∀ e, x12 (ix1 e) = P.g e)
    (hT : ∀ k d, x13 (ix2 k d) = P.T k d) (ht : ∀ k, x14 (ix1 k) = P.t k) (b : Fin 256) (k : Fin 4096) :
    refLayer X x3 x4 x11 x12 x13 x14 (ix2 b k) = route P (f b) k := by
  refine ref_dense P f _ x13 x14 (fun b d => ref_mix P f _ _ (ref_experts P f X x3 x4 hX hW hb) (fun b e => ?_) b d) hT ht b k
  refine ref_weight _ (logit P (f b)) b (fun e => ?_) e
  refine (ref_soft _ b e).trans ?_
  rw [show (fun e => refLogits X x11 x12 (ix2 b e)) = logit P (f b) from funext fun e => ref_logits P f X x11 x12 hX hG hg b e]

end Cert.Moe
-- ==== Proof.RefTail.lean ====
/- The reference's first layer, and its tail: the last convolution, the maxima over cells, and two linear maps. -/
module

public import proofs.«01_k».proof.Proof.Gen.ReferenceIdeal.Read
public import proofs.«01_k».proof.Proof.RefLayer
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Moe
open Cert.ReferenceIdeal Cert.ReferenceIdeal.Gen Cert.ReferenceIdeal.Read

/-- The first layer's biases, spread over images and places. -/
theorem spread_b1 (x2 : FVec Ideal S16 .f32) (b : Fin 256) (o y x : Fin 16) :
    val_main_v58 (F := Ideal) x2 (ix4 b o y x) = x2 (ix1 o) := by
  unfold val_main_v58 val_main_v57 val_main_v56
  pointwise

/-- The reference's first layer, laid out as states, is the network's. -/
theorem ref_stem (P : Params) (x0 : FVec Ideal S256x3x32x32 .f32) (x1 : FVec Ideal S16x3x3x3 .f32) (x2 : FVec Ideal S16 .f32)
    (hW : ∀ o i y x, x1 (ix4 o i y x) = P.W1 o i y x) (hb : ∀ o, x2 (ix1 o) = P.b1 o) (b : Fin 256) (d : Fin 4096) :
    val_main_v61 (F := Ideal) x0 x1 x2 (ix2 b d) = stem P (fun i y x => x0 (ix4 b i y x)) d := by
  have hw : (fun i v u => (x1 (ix4 ⟨d.val / 256, by omega⟩ i v u) : EReal)) = P.W1 ⟨d.val / 256, by omega⟩ :=
    funext fun i => funext fun v => funext fun u => hW _ _ _ _
  have h : (val_main_v61 (F := Ideal) x0 x1 x2 : FVec Ideal S256x4096 .f32) (ix2 b d)
      = val_main_v60 (F := Ideal) x0 x1 x2 (ix4 b ⟨d.val / 256, by omega⟩ ⟨d.val / 16 % 16, by omega⟩ ⟨d.val % 16, by omega⟩) := by
    unfold val_main_v61
    generalize val_main_v60 (F := Ideal) x0 x1 x2 = Y
    pointwise
    blk_ext
  refine h.trans (congrArg₂ max (Ideal.add_congr (stem_conv x0 x1 b _ _ _) ((spread_b1 x2 b _ _ _).trans (hb _))) zero_float)
    |>.trans ?_
  rw [hw]
  rfl

/-- The last convolution of a batch of states. -/
abbrev refLast (X : FVec Ideal S256x4096 .f32) (W : FVec Ideal S8x16x3x3 .f32) (bl : FVec Ideal S8 .f32) :
    FVec Ideal S256x8x8x8 .f32 :=
  maximumf (addf (addf (addf (addf (addf (addf (addf (addf (addf (addf
    (broadcastInDim S256x8x8x8 ![] bcast_S_S256x8x8x8 (constant S_ .f32 0x00000000#32))
    (lastTap (refPad X) W 0 0 slicesBy_S256x16x18x18_S256x16x8x8_0s1_0s1_0s2_0s2 slices_S8x16x3x3_S8x16x1x1_0_0_0_0))
    (lastTap (refPad X) W 0 1 slicesBy_S256x16x18x18_S256x16x8x8_0s1_0s1_0s2_1s2 slices_S8x16x3x3_S8x16x1x1_0_0_0_1))
    (lastTap (refPad X) W 0 2 slicesBy_S256x16x18x18_S256x16x8x8_0s1_0s1_0s2_2s2 slices_S8x16x3x3_S8x16x1x1_0_0_0_2))
    (lastTap (refPad X) W 1 0 slicesBy_S256x16x18x18_S256x16x8x8_0s1_0s1_1s2_0s2 slices_S8x16x3x3_S8x16x1x1_0_0_1_0))
    (lastTap (refPad X) W 1 1 slicesBy_S256x16x18x18_S256x16x8x8_0s1_0s1_1s2_1s2 slices_S8x16x3x3_S8x16x1x1_0_0_1_1))
    (lastTap (refPad X) W 1 2 slicesBy_S256x16x18x18_S256x16x8x8_0s1_0s1_1s2_2s2 slices_S8x16x3x3_S8x16x1x1_0_0_1_2))
    (lastTap (refPad X) W 2 0 slicesBy_S256x16x18x18_S256x16x8x8_0s1_0s1_2s2_0s2 slices_S8x16x3x3_S8x16x1x1_0_0_2_0))
    (lastTap (refPad X) W 2 1 slicesBy_S256x16x18x18_S256x16x8x8_0s1_0s1_2s2_1s2 slices_S8x16x3x3_S8x16x1x1_0_0_2_1))
    (lastTap (refPad X) W 2 2 slicesBy_S256x16x18x18_S256x16x8x8_0s1_0s1_2s2_2s2 slices_S8x16x3x3_S8x16x1x1_0_0_2_2))
    (broadcastInDim S256x8x8x8 ![0, 1, 2, 3] bcast_S1x8x1x1_S256x8x8x8_0_1_2_3
      (broadcastInDim S1x8x1x1 ![1, 2, 3] bcast_S8x1x1_S1x8x1x1_1_2_3 (broadcastInDim S8x1x1 ![0] bcast_S8_S8x1x1_0 bl))))
    (broadcastInDim S256x8x8x8 ![] bcast_S_S256x8x8x8 (constant S_ .f32 0x00000000#32))

/-- The last convolution's biases, spread over images and places. -/
theorem spread_bl (bl : FVec Ideal S8 .f32) (b : Fin 256) (o y x : Fin 8) :
    (broadcastInDim S256x8x8x8 ![0, 1, 2, 3] bcast_S1x8x1x1_S256x8x8x8_0_1_2_3
      (broadcastInDim S1x8x1x1 ![1, 2, 3] bcast_S8x1x1_S1x8x1x1_1_2_3 (broadcastInDim S8x1x1 ![0] bcast_S8_S8x1x1_0 bl))
      : FVec Ideal S256x8x8x8 .f32) (ix4 b o y x) = bl (ix1 o) := by
  pointwise

/-- It is the network's last convolution. -/
theorem ref_last (P : Params) (f : Fin 256 → Fin 4096 → EReal) (X : FVec Ideal S256x4096 .f32) (W : FVec Ideal S8x16x3x3 .f32)
    (bl : FVec Ideal S8 .f32) (hX : ∀ b d, X (ix2 b d) = f b d) (hW : ∀ o i y x, W (ix4 o i y x) = P.Wl o i y x)
    (hb : ∀ o, bl (ix1 o) = P.bl o) (b : Fin 256) (o y x : Fin 8) :
    refLast X W bl (ix4 b o y x) = lastConv P (f b) o y.val x.val := by
  have h := fun ky kx hs hw => last_tap (fun b => plane (f b)) (refPad X) W (ref_pad f X hX) ky kx hs hw b o y x
  have hw : (fun i v u => (W (ix4 o i v u) : EReal)) = P.Wl o := funext fun i => funext fun v => funext fun u => hW _ _ _ _
  rw [hw] at h
  refine congrArg₂ max (Ideal.add_congr (Eq.trans ?_ (conv_taps _ _ _ _ _)) ((spread_bl bl b o y x).trans (hb o))) zero_float
  exact Ideal.add_congr (Ideal.add_congr (Ideal.add_congr (Ideal.add_congr (Ideal.add_congr (Ideal.add_congr (Ideal.add_congr
    (Ideal.add_congr (Ideal.add_congr zero_float (h 0 0 _ _)) (h 0 1 _ _)) (h 0 2 _ _)) (h 1 0 _ _)) (h 1 1 _ _)) (h 1 2 _ _))
    (h 2 0 _ _)) (h 2 1 _ _)) (h 2 2 _ _)

/-- The maxima over two-by-two cells. -/
abbrev refPool (L : FVec Ideal S256x8x8x8 .f32) : FVec Ideal S256x8x4x4 .f32 :=
  Host.reduce FloatOps.maximumf (shapeCast S256x8x4x2x4x2 L shapeCasts_S256x8x8x8_S256x8x4x2x4x2) (constant S_ .f32 0xFF800000#32)
    reducesTo_S256x8x4x2x4x2_S256x8x4x4_d3_5 h_S_

/-- The four places of a cell. -/
def cell (b : Fin 256) (o : Fin 8) (y x : Fin 4) (s : Fin 4) : S256x8x4x2x4x2.Idx :=
  ix6 b o y ⟨s.val / 2, by omega⟩ x ⟨s.val % 2, by omega⟩

/-- They are the places the maximum at the cell runs over. -/
theorem cell_places (b : Fin 256) (o : Fin 8) (y x : Fin 4) :
    (Finset.univ.filter fun j => reducesTo_S256x8x4x2x4x2_S256x8x4x4_d3_5.drop j = ix4 b o y x) = Finset.univ.image (cell b o y x) := by
  have h := reducesTo_S256x8x4x2x4x2_S256x8x4x4_d3_5
  ext j
  rw [Finset.mem_filter, Finset.mem_image]
  constructor
  · rintro ⟨-, hj⟩
    have h0 : (j 0).val = b.val := (h.drop_apply_val_of_eq j 0 0).symm.trans (congrArg (fun i => (i 0).val) hj)
    have h1 : (j 1).val = o.val := (h.drop_apply_val_of_eq j 1 1).symm.trans (congrArg (fun i => (i 1).val) hj)
    have h2 : (j 2).val = y.val := (h.drop_apply_val_of_eq j 2 2).symm.trans (congrArg (fun i => (i 2).val) hj)
    have h3 : (j 4).val = x.val := (h.drop_apply_val_of_eq j 3 4).symm.trans (congrArg (fun i => (i 3).val) hj)
    have u : (j 3).val < 2 := (j 3).isLt
    have v : (j 5).val < 2 := (j 5).isLt
    refine ⟨⟨(j 3).val * 2 + (j 5).val, by omega⟩, Finset.mem_univ _, funext fun a => Fin.ext ?_⟩
    match a with
    | ⟨0, _⟩ => exact h0.symm
    | ⟨1, _⟩ => exact h1.symm
    | ⟨2, _⟩ => exact h2.symm
    | ⟨3, _⟩ => show ((j 3).val * 2 + (j 5).val) / 2 = (j 3).val; omega
    | ⟨4, _⟩ => exact h3.symm
    | ⟨5, _⟩ => show ((j 3).val * 2 + (j 5).val) % 2 = (j 5).val; omega
  · rintro ⟨s, -, rfl⟩
    refine ⟨Finset.mem_univ _, funext fun a => Fin.ext ?_⟩
    match a with
    | ⟨0, _⟩ => exact h.drop_apply_val_of_eq _ 0 0
    | ⟨1, _⟩ => exact h.drop_apply_val_of_eq _ 1 1
    | ⟨2, _⟩ => exact h.drop_apply_val_of_eq _ 2 2
    | ⟨3, _⟩ => exact h.drop_apply_val_of_eq _ 3 4

/-- The reference's maxima are the network's. -/
theorem ref_pool (P : Params) (f : Fin 256 → Fin 4096 → EReal) (L : FVec Ideal S256x8x8x8 .f32)
    (hL : ∀ b o (y x : Fin 8), L (ix4 b o y x) = lastConv P (f b) o y.val x.val) (b : Fin 256) (o : Fin 8) (y x : Fin 4) :
    refPool L (ix4 b o y x) = pool P (f b) o y.val x.val := by
  pointwise [bot_bits]
  rw [cell_places, Finset.fold_image_idem]
  refine Finset.fold_congr fun s _ => (hL _ _ _ _).trans ?_
  exact congrArg₂ (lastConv P (f b) o) (congrArg (· + s.val / 2) (mul_comm _ _)) (congrArg (· + s.val % 2) (mul_comm _ _))

/-- The first linear map of the tail. -/
abbrev refHidden (M : FVec Ideal S256x8x4x4 .f32) (A : FVec Ideal S16x128 .f32) (a : FVec Ideal S16 .f32) : FVec Ideal S256x16 .f32 :=
  maximumf (addf (Host.dotGeneral dot_S256x128_S128x16_S256x16_1_0_0_1_n_n none
    (shapeCast S256x128 M shapeCasts_S256x8x4x4_S256x128) (transpose S128x16 [1, 0] A transposes_S16x128_S128x16_1_0))
    (broadcastInDim S256x16 ![0, 1] bcast_S1x16_S256x16_0_1 (broadcastInDim S1x16 ![1] bcast_S16_S1x16_1 a)))
    (broadcastInDim S256x16 ![] bcast_S_S256x16 (constant S_ .f32 0x00000000#32))

/-- It is the network's. -/
theorem ref_hidden (P : Params) (f : Fin 256 → Fin 4096 → EReal) (M : FVec Ideal S256x8x4x4 .f32) (A : FVec Ideal S16x128 .f32)
    (a : FVec Ideal S16 .f32) (hM : ∀ b o (y x : Fin 4), M (ix4 b o y x) = pool P (f b) o y.val x.val)
    (hA : ∀ r k, A (ix2 r k) = P.A r k) (ha : ∀ r, a (ix1 r) = P.a r) (b : Fin 256) (r : Fin 16) :
    refHidden M A a (ix2 b r) = hidden P (f b) r := by
  pointwise
  unfold hidden
  refine congrArg (max · 0) (Ideal.add_congr (Finset.sum_congr rfl fun k _ => (mul_comm _ _).trans ?_) (ha r))
  refine Ideal.mul_congr (hA r k) (Eq.trans ?_ (hM b ⟨k.val / 16, by omega⟩ ⟨k.val / 4 % 4, by omega⟩ ⟨k.val % 4, by omega⟩))
  blk_ext

/-- The second linear map of the tail. -/
abbrev refScores (H : FVec Ideal S256x16 .f32) (B : FVec Ideal S10x16 .f32) (d : FVec Ideal S10 .f32) : FVec Ideal S256x10 .f32 :=
  addf (Host.dotGeneral dot_S256x16_S16x10_S256x10_1_0_0_1_n_n none H (transpose S16x10 [1, 0] B transposes_S10x16_S16x10_1_0))
    (broadcastInDim S256x10 ![0, 1] bcast_S1x10_S256x10_0_1 (broadcastInDim S1x10 ![1] bcast_S10_S1x10_1 d))

/-- It is the network's. -/
theorem ref_scores (P : Params) (f : Fin 256 → Fin 4096 → EReal) (H : FVec Ideal S256x16 .f32) (B : FVec Ideal S10x16 .f32)
    (d : FVec Ideal S10 .f32) (hH : ∀ b r, H (ix2 b r) = hidden P (f b) r) (hB : ∀ r k, B (ix2 r k) = P.B r k)
    (hd : ∀ r, d (ix1 r) = P.d r) (b : Fin 256) (r : Fin 10) : refScores H B d (ix2 b r) = scores P (f b) r := by
  pointwise
  exact Ideal.add_congr (Finset.sum_congr rfl fun k _ => (mul_comm _ _).trans (Ideal.mul_congr (hB r k) (hH b k))) (hd r)

end Cert.Moe
-- ==== Proof.RefEnd.lean ====
/- The reference's results, by the network's functions. -/
module

public import proofs.«01_k».proof.Proof.Gen.ReferenceIdeal.Read
public import proofs.«01_k».proof.Proof.RefTail
public import proofs.«01_k».proof.Proof.Params
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Moe
open Cert.ReferenceIdeal Cert.ReferenceIdeal.Gen Cert.ReferenceIdeal.Read

variable (x0 : FVec Ideal S256x3x32x32 .f32) (x1 : FVec Ideal S16x3x3x3 .f32) (x2 : FVec Ideal S16 .f32)
  (x3 : FVec Ideal S4x16x16x3x3 .f32) (x4 : FVec Ideal S4x16 .f32) (x5 : FVec Ideal S8x16x3x3 .f32)
  (x6 : FVec Ideal S8 .f32) (x7 : FVec Ideal S16x128 .f32) (x8 : FVec Ideal S16 .f32) (x9 : FVec Ideal S10x16 .f32)
  (x10 : FVec Ideal S10 .f32) (x11 : FVec Ideal S4x4096 .f32) (x12 : FVec Ideal S4 .f32)
  (x13 : FVec Ideal S4096x4096 .f32) (x14 : FVec Ideal S4096 .f32)

/-- The state after the first layer. -/
theorem ref_state0 (b : Fin 256) (d : Fin 4096) : val_main_v61 (F := Ideal) x0 x1 x2 (ix2 b d)
    = state0 (params x1 x2 x3 x4 x5 x6 x7 x8 x9 x10 x11 x12 x13 x14) (images x0) b d :=
  ref_stem (params x1 x2 x3 x4 x5 x6 x7 x8 x9 x10 x11 x12 x13 x14) x0 x1 x2 (fun _ _ _ _ => rfl) (fun _ => rfl) b d

/-- The first gated layer is the layer on the first state. -/
theorem ref_first : val_main_v195 (F := Ideal) x0 x1 x2 x3 x4 x11 x12 x13 x14
    = refLayer (val_main_v61 (F := Ideal) x0 x1 x2) x3 x4 x11 x12 x13 x14 := rfl

/-- The second gated layer is the layer on the second state. -/
theorem ref_second : val_main_v329 (F := Ideal) x0 x1 x2 x3 x4 x11 x12 x13 x14
    = refLayer (val_main_v195 (F := Ideal) x0 x1 x2 x3 x4 x11 x12 x13 x14) x3 x4 x11 x12 x13 x14 := rfl

/-- The tail is the tail on the last state. -/
theorem ref_last_layers : val_main_v405 (F := Ideal) x0 x1 x2 x3 x4 x5 x6 x7 x8 x9 x10 x11 x12 x13 x14
    = refScores (refHidden (refPool (refLast (val_main_v329 (F := Ideal) x0 x1 x2 x3 x4 x11 x12 x13 x14) x5 x6)) x7 x8) x9 x10 := rfl

/-- A gated layer on states `f` gives the layer's states. -/
theorem ref_route (f : Fin 256 → Fin 4096 → EReal) (X : FVec Ideal S256x4096 .f32) (hX : ∀ b d, X (ix2 b d) = f b d) (b : Fin 256)
    (k : Fin 4096) : refLayer X x3 x4 x11 x12 x13 x14 (ix2 b k) = route (params x1 x2 x3 x4 x5 x6 x7 x8 x9 x10 x11 x12 x13 x14) (f b) k :=
  ref_layer (params x1 x2 x3 x4 x5 x6 x7 x8 x9 x10 x11 x12 x13 x14) f X x3 x4 x11 x12 x13 x14 hX (fun _ _ _ _ _ => rfl) (fun _ _ => rfl)
    (fun _ _ => rfl) (fun _ => rfl) (fun _ _ => rfl) (fun _ => rfl) b k

/-- The state after the first gated layer. -/
theorem ref_state1 (b : Fin 256) (k : Fin 4096) : val_main_v195 (F := Ideal) x0 x1 x2 x3 x4 x11 x12 x13 x14 (ix2 b k)
    = state1 (params x1 x2 x3 x4 x5 x6 x7 x8 x9 x10 x11 x12 x13 x14) (images x0) b k := by
  rw [ref_first]
  exact ref_route x1 x2 x3 x4 x5 x6 x7 x8 x9 x10 x11 x12 x13 x14 _ _ (ref_state0 x0 x1 x2 x3 x4 x5 x6 x7 x8 x9 x10 x11 x12 x13 x14) b k

/-- The state after the second gated layer. -/
theorem ref_state2 (b : Fin 256) (k : Fin 4096) : val_main_v329 (F := Ideal) x0 x1 x2 x3 x4 x11 x12 x13 x14 (ix2 b k)
    = state2 (params x1 x2 x3 x4 x5 x6 x7 x8 x9 x10 x11 x12 x13 x14) (images x0) b k := by
  rw [ref_second]
  exact ref_route x1 x2 x3 x4 x5 x6 x7 x8 x9 x10 x11 x12 x13 x14 _ _ (ref_state1 x0 x1 x2 x3 x4 x5 x6 x7 x8 x9 x10 x11 x12 x13 x14) b k

/-- The scores. -/
theorem ref_v405 (b : Fin 256) (r : Fin 10) :
    val_main_v405 (F := Ideal) x0 x1 x2 x3 x4 x5 x6 x7 x8 x9 x10 x11 x12 x13 x14 (ix2 b r)
    = scores (params x1 x2 x3 x4 x5 x6 x7 x8 x9 x10 x11 x12 x13 x14)
        (state2 (params x1 x2 x3 x4 x5 x6 x7 x8 x9 x10 x11 x12 x13 x14) (images x0) b) r := by
  rw [ref_last_layers]
  refine ref_scores (params x1 x2 x3 x4 x5 x6 x7 x8 x9 x10 x11 x12 x13 x14) _ _ x9 x10 (fun b r => ?_) (fun _ _ => rfl) (fun _ => rfl) b r
  refine ref_hidden (params x1 x2 x3 x4 x5 x6 x7 x8 x9 x10 x11 x12 x13 x14) _ _ x7 x8
    (fun b o y x => ?_) (fun _ _ => rfl) (fun _ => rfl) b r
  refine ref_pool (params x1 x2 x3 x4 x5 x6 x7 x8 x9 x10 x11 x12 x13 x14) _ _ (fun b o y x => ?_) b o y x
  exact ref_last (params x1 x2 x3 x4 x5 x6 x7 x8 x9 x10 x11 x12 x13 x14) _ _ x5 x6
    (ref_state2 x0 x1 x2 x3 x4 x5 x6 x7 x8 x9 x10 x11 x12 x13 x14) (fun _ _ _ _ => rfl) (fun _ => rfl) b o y x

/-- The logits of states `f`. -/
theorem ref_gate (f : Fin 256 → Fin 4096 → EReal) (X : FVec Ideal S256x4096 .f32) (hX : ∀ b d, X (ix2 b d) = f b d) (b : Fin 256)
    (e : Fin 4) : refLogits X x11 x12 (ix2 b e) = logit (params x1 x2 x3 x4 x5 x6 x7 x8 x9 x10 x11 x12 x13 x14) (f b) e :=
  ref_logits (params x1 x2 x3 x4 x5 x6 x7 x8 x9 x10 x11 x12 x13 x14) f X x11 x12 hX (fun _ _ => rfl) (fun _ => rfl) b e

/-- The first logits. -/
theorem ref_v66 (b : Fin 256) (e : Fin 4) : val_main_v66 (F := Ideal) x0 x1 x2 x11 x12 (ix2 b e)
    = logit (params x1 x2 x3 x4 x5 x6 x7 x8 x9 x10 x11 x12 x13 x14)
        (state0 (params x1 x2 x3 x4 x5 x6 x7 x8 x9 x10 x11 x12 x13 x14) (images x0) b) e :=
  ref_gate x1 x2 x3 x4 x5 x6 x7 x8 x9 x10 x11 x12 x13 x14 _ _ (ref_state0 x0 x1 x2 x3 x4 x5 x6 x7 x8 x9 x10 x11 x12 x13 x14) b e

/-- The second logits. -/
theorem ref_v200 (b : Fin 256) (e : Fin 4) : val_main_v200 (F := Ideal) x0 x1 x2 x3 x4 x11 x12 x13 x14 (ix2 b e)
    = logit (params x1 x2 x3 x4 x5 x6 x7 x8 x9 x10 x11 x12 x13 x14)
        (state1 (params x1 x2 x3 x4 x5 x6 x7 x8 x9 x10 x11 x12 x13 x14) (images x0) b) e :=
  ref_gate x1 x2 x3 x4 x5 x6 x7 x8 x9 x10 x11 x12 x13 x14 _ _ (ref_state1 x0 x1 x2 x3 x4 x5 x6 x7 x8 x9 x10 x11 x12 x13 x14) b e

end Cert.Moe
-- ==== Proof.Equal.lean ====
/- The reference's results are the kernel's, at equal arguments. -/
module

public import proofs.«01_k».proof.Proof.Chain
public import proofs.«01_k».proof.Proof.RefEnd

@[expose] public section

set_option maxRecDepth 16384

noncomputable section

open Idealize.ShloMosaic Idealize.ShloMosaic.TcCoe Idealize.SL.Sem

namespace Cert.Moe
open Cert.KernelIdeal Cert.KernelIdeal.Gen

variable (m : (ℓ : Loc nD τ sig) → Buf (Elt Ideal) ℓ) (ρ : Dev nD → PrngReg) (c : Dev nD)

/-- The scores are the same. -/
theorem same_scores : Cert.ReferenceIdeal.Read.val_main_v405 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
    = (W32 m ρ c (Proc.devRef .tc main_v66) : FVec Ideal S256x10 .f32) := by
  funext i
  rw [eq_ix2 i]
  exact (ref_v405 _ _ _ _ _ _ _ _ _ _ _ _ _ _ _ _ _).trans (at_v66 m ρ c _ _).symm

/-- The first logits are the same. -/
theorem same_first : Cert.ReferenceIdeal.Read.val_main_v66 (F := Ideal)
      (m ((c : Thread nD τ).loc main_arg0)) (m ((c : Thread nD τ).loc main_arg1)) (m ((c : Thread nD τ).loc main_arg2))
      (m ((c : Thread nD τ).loc main_arg11)) (m ((c : Thread nD τ).loc main_arg12))
    = (W32 m ρ c (Proc.devRef .tc main_v31) : FVec Ideal S256x4 .f32) := by
  funext i
  rw [eq_ix2 i]
  exact (ref_v66 _ _ _ _ _ _ _ _ _ _ _ _ _ _ _ _ _).trans (end_v31 m ρ c _ _).symm

/-- The second logits are the same. -/
theorem same_second : Cert.ReferenceIdeal.Read.val_main_v200 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg11))
      (m ((c : Thread nD τ).loc main_arg12)) (m ((c : Thread nD τ).loc main_arg13)) (m ((c : Thread nD τ).loc main_arg14))
    = (W32 m ρ c (Proc.devRef .tc main_v40) : FVec Ideal S256x4 .f32) := by
  funext i
  rw [eq_ix2 i]
  exact (ref_v200 _ _ _ _ _ _ _ _ _ _ _ _ _ _ _ _ _).trans (end_v40 m ρ c _ _).symm

end Cert.Moe
-- ==== Proof.lean ====
/- The certificate: the frames of the three programs, and the equality of the kernel's and the reference's three results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Equal
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

/-- The reference runs, keeps its arguments, and leaves every semaphore at zero. -/
theorem reference_frame : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run m ρ)

/-- From equal arguments the idealized kernel and the reference end with equal results. -/
theorem results_equal : Cert.algebraic_KernelIdeal_ReferenceIdeal := by
  intro m ρ m' ρ' _ h
  refine ⟨fun c => Cert.KernelIdeal.Gen.W32 m ρ c (Proc.devRef .tc Cert.KernelIdeal.main_v66),
    fun c => Cert.KernelIdeal.Gen.W32 m ρ c (Proc.devRef .tc Cert.KernelIdeal.main_v31),
    fun c => Cert.KernelIdeal.Gen.W32 m ρ c (Proc.devRef .tc Cert.KernelIdeal.main_v40),
    (θ_run Cert.KernelIdeal.defs _ _).mono (fun r k c => ?_) (Cert.Moe.kernel_run m ρ),
    (θ_run Cert.ReferenceIdeal.defs _ _).mono (fun r k c => ?_) (Cert.ReferenceIdeal.Value.run m' ρ')⟩
  · obtain ⟨k0, k1, k2, k⟩ := k c
    exact ⟨k0, k1, k2, k _ (by decide), k _ (by decide), k _ (by decide), k _ (by decide), k _ (by decide), k _ (by decide), k _ (by decide), k _ (by decide), k _ (by decide), k _ (by decide), k _ (by decide), k _ (by decide), k _ (by decide), k _ (by decide), k _ (by decide)⟩
  · obtain ⟨k0, k1, k2, k⟩ := k c
    obtain ⟨h0, h1, h2, h3, h4, h5, h6, h7, h8, h9, h10, h11, h12, h13, h14⟩ := h c
    refine ⟨k0.trans ((Cert.ReferenceIdeal.Read.val_main_v405_eq (F := Ideal) _).trans ?_),
      k1.trans ((Cert.ReferenceIdeal.Read.val_main_v66_eq (F := Ideal) _).trans ?_),
      k2.trans ((Cert.ReferenceIdeal.Read.val_main_v200_eq (F := Ideal) _).trans ?_), k⟩
    · simp only [StableHlo.launchContents_devRef, h0, h1, h2, h3, h4, h5, h6, h7, h8, h9, h10, h11, h12, h13, h14]
      exact Cert.Moe.same_scores m ρ c
    · simp only [StableHlo.launchContents_devRef, h0, h1, h2, h11, h12]
      exact Cert.Moe.same_first m ρ c
    · simp only [StableHlo.launchContents_devRef, h0, h1, h2, h3, h4, h11, h12, h13, h14]
      exact Cert.Moe.same_second m ρ c

/-- Everything the certificate claims. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, results_equal⟩

end Cert.Proof

end
